-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_ok [hPre_scales_ok : Cert.Pre_scales_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scales_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_ok [hPre_scales_ok : Cert.Pre_scales_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_scales_ok [hKernelIdeal : Cert.KernelIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_scales_ok [hReferenceIdeal : Cert.ReferenceIdeal.Facts] [hPre_scales_ok : Cert.Pre_scales_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "log2e_eighth" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_scales_ok [hKernelIdeal : Cert.KernelIdeal.Facts] [hReferenceIdeal : Cert.ReferenceIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_scales_ok : Cert.Pre_scales_ok.Facts),
    quiescent_Kernel (hKernel := hKernel)
    ∧ quiescent_KernelIdeal (hKernelIdeal := hKernelIdeal)
    ∧ quiescent_KernelIdeal_pre_scales_ok (hKernelIdeal := hKernelIdeal) (hPre_scales_ok := hPre_scales_ok)
    ∧ quiescent_ReferenceIdeal (hReferenceIdeal := hReferenceIdeal)
    ∧ quiescent_ReferenceIdeal_pre_scales_ok (hReferenceIdeal := hReferenceIdeal) (hPre_scales_ok := hPre_scales_ok)
    ∧ preserves_Kernel_KernelIdeal
    ∧ algebraic_KernelIdeal_ReferenceIdeal_pre_scales_ok (hKernelIdeal := hKernelIdeal) (hReferenceIdeal := hReferenceIdeal) (hPre_scales_ok := hPre_scales_ok)
-- ==== Pre_scales_ok.lean ====
abbrev S3x384x32x64 : Shape := ⟨4, ![3, 384, 32, 64]⟩
abbrev S32 : Shape := ⟨1, ![32]⟩
abbrev S3x384x4x64 : Shape := ⟨4, ![3, 384, 4, 64]⟩
abbrev S4 : Shape := ⟨1, ![4]⟩
abbrev S3x32x384 : Shape := ⟨3, ![3, 32, 384]⟩
abbrev S3x384 : Shape := ⟨2, ![3, 384]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel
  bcast_S_S3x384 : S_.BroadcastsInDim S3x384 (![] : Fin 0 → Fin S3x384.rank)
  reducesTo_S3x384_S_d0_1 : S3x384.ReducesTo [0, 1] S_

variable [Facts]

def fn {F : FTy → Type} [FloatOps F] (main_arg0 : FVec F S3x384x32x64 .fp8e4m3) (main_arg1 : FVec F S32 .f32) (main_arg2 : FVec F S3x384x4x64 .fp8e4m3) (main_arg3 : FVec F S4 .f32) (main_arg4 : FVec F S3x384x4x64 .fp8e4m3) (main_arg5 : FVec F S4 .f32) (main_arg6 : FVec F S3x384x32x64 .bf16) (main_arg7 : FVec F S3x32x384 .f32) (main_arg8 : FVec F S3x384x32x64 .fp8e5m2) (main_arg9 : FVec F S3x384 .f32) (main_arg10 : IVec S3x384 32) : IVec S_ 1 :=
  let main_cst : FVec F S_ .f32 := constant S_ .f32 0x00000000#32
  let main_v0 : FVec F S4 .f32 := broadcastInDim S4 ![] bcast_S_S4 main_cst
  let main_v1 : IVec S4 1 := cmpf .oge main_arg5 main_v0
  let main_cst_0 : FVec F S_ .f32 := constant S_ .f32 0x7F800000#32
  let main_v2 : FVec F S4 .f32 := broadcastInDim S4 ![] bcast_S_S4 main_cst_0
  let main_v3 : IVec S4 1 := cmpf .olt main_arg5 main_v2
  let main_v4 : IVec S4 1 := andi main_v1 main_v3
  let main_c : IVec S_ 1 := constantI S_ 1 1#1
  let main_v5 : IVec S_ 1 := (fun x v => Host.reduce IntOp.andi x v reducesTo_S4_S_d0 h_S_) main_v4 main_c
  let main_cst_1 : FVec F S_ .f32 := constant S_ .f32 0x00000000#32
  let main_v6 : FVec F S3x384 .f32 := broadcastInDim S3x384 ![] bcast_S_S3x384 main_cst_1
  let main_v7 : IVec S3x384 1 := cmpf .oge main_arg9 main_v6
  let main_cst_2 : FVec F S_ .f32 := constant S_ .f32 0x7F800000#32
  let main_v8 : FVec F S3x384 .f32 := broadcastInDim S3x384 ![] bcast_S_S3x384 main_cst_2
  let main_v9 : IVec S3x384 1 := cmpf .olt main_arg9 main_v8
  let main_v10 : IVec S3x384 1 := andi main_v7 main_v9
  let main_c_3 : IVec S_ 1 := constantI S_ 1 1#1
  let main_v11 : IVec S_ 1 := (fun x v => Host.reduce IntOp.andi x v reducesTo_S3x384_S_d0_1 h_S_) main_v10 main_c_3
  let main_v12 : IVec S_ 1 := andi main_v5 main_v11
  main_v12
-- ==== Kernel.lean ====
abbrev S3x384x32x64 : Shape := ⟨4, ![3, 384, 32, 64]⟩
abbrev S32 : Shape := ⟨1, ![32]⟩
abbrev S3x384x4x64 : Shape := ⟨4, ![3, 384, 4, 64]⟩
abbrev S4 : Shape := ⟨1, ![4]⟩
abbrev S3x32x384 : Shape := ⟨3, ![3, 32, 384]⟩
abbrev S3x384 : Shape := ⟨2, ![3, 384]⟩
abbrev S3x32x64x384 : Shape := ⟨4, ![3, 32, 64, 384]⟩
abbrev S3x4x64x384 : Shape := ⟨4, ![3, 4, 64, 384]⟩
abbrev S1x8x64x384 : Shape := ⟨4, ![1, 8, 64, 384]⟩
abbrev S1x1x64x384 : Shape := ⟨4, ![1, 1, 64, 384]⟩
abbrev S1x8x384 : Shape := ⟨3, ![1, 8, 384]⟩
abbrev S3x384x128 : Shape := ⟨3, ![3, 384, 128]⟩
abbrev S1x384 : Shape := ⟨2, ![1, 384]⟩
abbrev S128x384 : Shape := ⟨2, ![128, 384]⟩
abbrev S384x128 : Shape := ⟨2, ![384, 128]⟩
abbrev S1x128 : Shape := ⟨2, ![1, 128]⟩
abbrev S1x384x128 : Shape := ⟨3, ![1, 384, 128]⟩
abbrev S1 : Shape := ⟨1, ![1]⟩
abbrev S64x384 : Shape := ⟨2, ![64, 384]⟩
abbrev S384x64 : Shape := ⟨2, ![384, 64]⟩
abbrev S16x384 : Shape := ⟨2, ![16, 384]⟩
abbrev S80x384 : Shape := ⟨2, ![80, 384]⟩
abbrev S384x80 : Shape := ⟨2, ![384, 80]⟩
abbrev S16x128 : Shape := ⟨2, ![16, 128]⟩
abbrev S1x128x128 : Shape := ⟨3, ![1, 128, 128]⟩
abbrev S128x128 : Shape := ⟨2, ![128, 128]⟩
abbrev S1x1x64x128 : Shape := ⟨4, ![1, 1, 64, 128]⟩
abbrev S64x128 : Shape := ⟨2, ![64, 128]⟩
abbrev S128 : Shape := ⟨1, ![128]⟩
abbrev S80x128 : Shape := ⟨2, ![80, 128]⟩
abbrev S1x1x128 : Shape := ⟨3, ![1, 1, 128]⟩
abbrev S128x64 : Shape := ⟨2, ![128, 64]⟩
abbrev S64x256 : Shape := ⟨2, ![64, 256]⟩
abbrev S128x256 : Shape := ⟨2, ![128, 256]⟩
abbrev S128x80 : Shape := ⟨2, ![128, 80]⟩
abbrev S80x256 : Shape := ⟨2, ![80, 256]⟩
abbrev S1x256x128 : Shape := ⟨3, ![1, 256, 128]⟩
abbrev S256x128 : Shape := ⟨2, ![256, 128]⟩
abbrev S256x64 : Shape := ⟨2, ![256, 64]⟩
abbrev S256x256 : Shape := ⟨2, ![256, 256]⟩
abbrev S256x80 : Shape := ⟨2, ![256, 80]⟩
abbrev S384x256 : Shape := ⟨2, ![384, 256]⟩

abbrev nBuf : Space → Nat
  | .hbm => 22
  | .vmem => 21
  | .smem => 3
  | _ => 0

abbrev bufTy : (tb : Table) → Fin (tcTables nBuf tb) → BufTy
  | .hbm, ⟨0, _⟩ => ⟨S3x384x32x64, .fp8e4m3⟩
  | .hbm, ⟨1, _⟩ => ⟨S32, .f32⟩
  | .hbm, ⟨2, _⟩ => ⟨S3x384x4x64, .fp8e4m3⟩
  | .hbm, ⟨3, _⟩ => ⟨S4, .f32⟩
  | .hbm, ⟨4, _⟩ => ⟨S3x384x4x64, .fp8e4m3⟩
  | .hbm, ⟨5, _⟩ => ⟨S4, .f32⟩
  | .hbm, ⟨6, _⟩ => ⟨S3x384x32x64, .bf16⟩
  | .hbm, ⟨7, _⟩ => ⟨S3x32x384, .f32⟩
  | .hbm, ⟨8, _⟩ => ⟨S3x384x32x64, .fp8e5m2⟩
  | .hbm, ⟨9, _⟩ => ⟨S3x384, .f32⟩
  | .hbm, ⟨10, _⟩ => ⟨S3x384, .i32⟩
  | .hbm, ⟨11, _⟩ => ⟨S3x32x64x384, .fp8e4m3⟩
  | .hbm, ⟨12, _⟩ => ⟨S3x4x64x384, .fp8e4m3⟩
  | .hbm, ⟨13, _⟩ => ⟨S3x4x64x384, .fp8e4m3⟩
  | .hbm, ⟨14, _⟩ => ⟨S3x32x64x384, .bf16⟩
  | .hbm, ⟨15, _⟩ => ⟨S3x32x64x384, .fp8e5m2⟩
  | .hbm, ⟨16, _⟩ => ⟨S3x32x64x384, .bf16⟩
  | .hbm, ⟨17, _⟩ => ⟨S3x4x64x384, .bf16⟩
  | .hbm, ⟨18, _⟩ => ⟨S3x4x64x384, .bf16⟩
  | .hbm, ⟨19, _⟩ => ⟨S3x384x32x64, .bf16⟩
  | .hbm, ⟨20, _⟩ => ⟨S3x384x4x64, .bf16⟩
  | .hbm, ⟨21, _⟩ => ⟨S3x384x4x64, .bf16⟩
  | .local _ .vmem, ⟨0, _⟩ => ⟨S3x384, .f32⟩
  | .local _ .vmem, ⟨1, _⟩ => ⟨S3x384, .i32⟩
  | .local _ .vmem, ⟨2, _⟩ => ⟨S1x8x64x384, .fp8e4m3⟩
  | .local _ .vmem, ⟨3, _⟩ => ⟨S1x8x64x384, .fp8e4m3⟩
  | .local _ .vmem, ⟨4, _⟩ => ⟨S1x1x64x384, .fp8e4m3⟩
  | .local _ .vmem, ⟨5, _⟩ => ⟨S1x1x64x384, .fp8e4m3⟩
  | .local _ .vmem, ⟨6, _⟩ => ⟨S1x1x64x384, .fp8e4m3⟩
  | .local _ .vmem, ⟨7, _⟩ => ⟨S1x1x64x384, .fp8e4m3⟩
  | .local _ .vmem, ⟨8, _⟩ => ⟨S1x8x64x384, .bf16⟩
  | .local _ .vmem, ⟨9, _⟩ => ⟨S1x8x64x384, .bf16⟩
  | .local _ .vmem, ⟨10, _⟩ => ⟨S1x8x384, .f32⟩
  | .local _ .vmem, ⟨11, _⟩ => ⟨S1x8x384, .f32⟩
  | .local _ .vmem, ⟨12, _⟩ => ⟨S1x8x64x384, .fp8e5m2⟩
  | .local _ .vmem, ⟨13, _⟩ => ⟨S1x8x64x384, .fp8e5m2⟩
  | .local _ .vmem, ⟨14, _⟩ => ⟨S1x8x64x384, .bf16⟩
  | .local _ .vmem, ⟨15, _⟩ => ⟨S1x8x64x384, .bf16⟩
  | .local _ .vmem, ⟨16, _⟩ => ⟨S1x1x64x384, .bf16⟩
  | .local _ .vmem, ⟨17, _⟩ => ⟨S1x1x64x384, .bf16⟩
  | .local _ .vmem, ⟨18, _⟩ => ⟨S1x1x64x384, .bf16⟩
  | .local _ .vmem, ⟨19, _⟩ => ⟨S1x1x64x384, .bf16⟩
  | .local _ .vmem, ⟨20, _⟩ => ⟨S3x384x128, .f32⟩
  | .local _ .smem, ⟨0, _⟩ => ⟨S32, .f32⟩
  | .local _ .smem, ⟨1, _⟩ => ⟨S4, .f32⟩
  | .local _ .smem, ⟨2, _⟩ => ⟨S4, .f32⟩
  | _, _ => ⟨S3x384x32x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![3, 4], ![false, false]⟩

def k0_off1 (i : grid0.Coords) : Fin 1 → Nat :=
  let arg1 : BitVec 32 := BitVec.ofNat 32 (i 1).val
  let v3 : Index := Scalar.indexCast arg1
  ![v3.toNat]
def k0_off2 (i : grid0.Coords) (c0_i32_20 : BitVec 32) : Fin 1 → Nat :=
  let arg1 : BitVec 32 := BitVec.ofNat 32 (i 1).val
  let c8_i32 : BitVec 32 := 8#32
  let v41 : BitVec 32 := Scalar.muli arg1 c8_i32
  let v42 : BitVec 32 := Scalar.addi v41 c0_i32_20
  let v43 : Index := Scalar.indexCast v42
  ![v43.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x384 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x64x384 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x64x384 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x64x384 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x64x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x64x384 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x64x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x64x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x64x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "log2e" => some (((Real.log 2)⁻¹ : ℝ) : EReal)
  | "log2e_eighth" => some ((8⁻¹ * (Real.log 2)⁻¹ : ℝ) : EReal)
  | _ => none
-- ==== ReferenceIdeal.lean ====
abbrev S3x384x32x64 : Shape := ⟨4, ![3, 384, 32, 64]⟩
abbrev S32 : Shape := ⟨1, ![32]⟩
abbrev S3x384x4x64 : Shape := ⟨4, ![3, 384, 4, 64]⟩
abbrev S4 : Shape := ⟨1, ![4]⟩
abbrev S3x32x384 : Shape := ⟨3, ![3, 32, 384]⟩
abbrev S3x384 : Shape := ⟨2, ![3, 384]⟩
abbrev S384 : Shape := ⟨1, ![384]⟩
abbrev S3x384x1x1 : Shape := ⟨4, ![3, 384, 1, 1]⟩
abbrev S3x4x8x384 : Shape := ⟨4, ![3, 4, 8, 384]⟩
abbrev S3x384x4x8x64 : Shape := ⟨5, ![3, 384, 4, 8, 64]⟩
abbrev S1x1x32x1 : Shape := ⟨4, ![1, 1, 32, 1]⟩
abbrev S1x1x384 : Shape := ⟨3, ![1, 1, 384]⟩
abbrev S1x384x1 : Shape := ⟨3, ![1, 384, 1]⟩
abbrev S1x384x384 : Shape := ⟨3, ![1, 384, 384]⟩
abbrev S3x384x1 : Shape := ⟨3, ![3, 384, 1]⟩
abbrev S3x1x384 : Shape := ⟨3, ![3, 1, 384]⟩
abbrev S3x384x384 : Shape := ⟨3, ![3, 384, 384]⟩
abbrev S3x4x384x384x8 : Shape := ⟨5, ![3, 4, 384, 384, 8]⟩
abbrev S3x4x8x384x384 : Shape := ⟨5, ![3, 4, 8, 384, 384]⟩
abbrev S4x8 : Shape := ⟨2, ![4, 8]⟩
abbrev S4x1 : Shape := ⟨2, ![4, 1]⟩
abbrev S_ : Shape := ⟨0, ![]⟩
abbrev S1x4x8x1x1 : Shape := ⟨5, ![1, 4, 8, 1, 1]⟩
abbrev S3x1x1x384x384 : Shape := ⟨5, ![3, 1, 1, 384, 384]⟩
abbrev S3x4x8x384x1 : Shape := ⟨5, ![3, 4, 8, 384, 1]⟩
abbrev S3x1x1x384x1 : Shape := ⟨5, ![3, 1, 1, 384, 1]⟩
abbrev S1x4x1x1x1 : Shape := ⟨5, ![1, 4, 1, 1, 1]⟩
abbrev S3x4x64x8x384 : Shape := ⟨5, ![3, 4, 64, 8, 384]⟩
abbrev S1x1x4x1x1 : Shape := ⟨5, ![1, 1, 4, 1, 1]⟩
abbrev S3x4x64x384 : Shape := ⟨4, ![3, 4, 64, 384]⟩

abbrev nBuf : Space → Nat
  | .hbm => 104
  | .vmem => 8
  | .smem => 0
  | _ => 0

abbrev bufTy : (tb : Table) → Fin (tcTables nBuf tb) → BufTy
  | .hbm, ⟨0, _⟩ => ⟨S3x384x32x64, .fp8e4m3⟩
  | .hbm, ⟨1, _⟩ => ⟨S32, .f32⟩
  | .hbm, ⟨2, _⟩ => ⟨S3x384x4x64, .fp8e4m3⟩
  | .hbm, ⟨3, _⟩ => ⟨S4, .f32⟩
  | .hbm, ⟨4, _⟩ => ⟨S3x384x4x64, .fp8e4m3⟩
  | .hbm, ⟨5, _⟩ => ⟨S4, .f32⟩
  | .hbm, ⟨6, _⟩ => ⟨S3x384x32x64, .bf16⟩
  | .hbm, ⟨7, _⟩ => ⟨S3x32x384, .f32⟩
  | .hbm, ⟨8, _⟩ => ⟨S3x384x32x64, .fp8e5m2⟩
  | .hbm, ⟨9, _⟩ => ⟨S3x384, .f32⟩
  | .hbm, ⟨10, _⟩ => ⟨S3x384, .i32⟩
  | .hbm, ⟨11, _⟩ => ⟨S3x384x32x64, .bf16⟩
  | .hbm, ⟨12, _⟩ => ⟨S3x384x4x64, .bf16⟩
  | .hbm, ⟨13, _⟩ => ⟨S3x384x4x64, .bf16⟩
  | .hbm, ⟨14, _⟩ => ⟨S3x384x32x64, .bf16⟩
  | .hbm, ⟨15, _⟩ => ⟨S384, .i32⟩
  | .hbm, ⟨16, _⟩ => ⟨S3x384x32x64, .f32⟩
  | .hbm, ⟨17, _⟩ => ⟨S3x384x1x1, .f32⟩
  | .hbm, ⟨18, _⟩ => ⟨S3x384x32x64, .f32⟩
  | .hbm, ⟨19, _⟩ => ⟨S3x384x32x64, .f32⟩
  | .hbm, ⟨20, _⟩ => ⟨S3x384x32x64, .f32⟩
  | .hbm, ⟨21, _⟩ => ⟨S3x32x384, .f32⟩
  | .hbm, ⟨22, _⟩ => ⟨S3x4x8x384, .f32⟩
  | .hbm, ⟨23, _⟩ => ⟨S3x4x8x384, .f32⟩
  | .hbm, ⟨24, _⟩ => ⟨S3x384x4x8x64, .bf16⟩
  | .hbm, ⟨25, _⟩ => ⟨S3x384x4x8x64, .bf16⟩
  | .hbm, ⟨26, _⟩ => ⟨S32, .bf16⟩
  | .hbm, ⟨27, _⟩ => ⟨S1x1x32x1, .bf16⟩
  | .hbm, ⟨28, _⟩ => ⟨S3x384x32x64, .bf16⟩
  | .hbm, ⟨29, _⟩ => ⟨S3x384x32x64, .bf16⟩
  | .hbm, ⟨30, _⟩ => ⟨S3x384x4x8x64, .bf16⟩
  | .hbm, ⟨31, _⟩ => ⟨S3x384, .bf16⟩
  | .hbm, ⟨32, _⟩ => ⟨S3x384x1x1, .bf16⟩
  | .hbm, ⟨33, _⟩ => ⟨S3x384x32x64, .bf16⟩
  | .hbm, ⟨34, _⟩ => ⟨S3x384x32x64, .bf16⟩
  | .hbm, ⟨35, _⟩ => ⟨S3x384x4x8x64, .bf16⟩
  | .hbm, ⟨36, _⟩ => ⟨S1x1x384, .i32⟩
  | .hbm, ⟨37, _⟩ => ⟨S1x384x1, .i32⟩
  | .hbm, ⟨38, _⟩ => ⟨S1x384x384, .i32⟩
  | .hbm, ⟨39, _⟩ => ⟨S1x384x384, .i32⟩
  | .hbm, ⟨40, _⟩ => ⟨S1x384x384, .i1⟩
  | .hbm, ⟨41, _⟩ => ⟨S3x384x1, .i32⟩
  | .hbm, ⟨42, _⟩ => ⟨S3x1x384, .i32⟩
  | .hbm, ⟨43, _⟩ => ⟨S3x384x384, .i32⟩
  | .hbm, ⟨44, _⟩ => ⟨S3x384x384, .i32⟩
  | .hbm, ⟨45, _⟩ => ⟨S3x384x384, .i1⟩
  | .hbm, ⟨46, _⟩ => ⟨S3x384x384, .i1⟩
  | .hbm, ⟨47, _⟩ => ⟨S3x384x384, .i1⟩
  | .hbm, ⟨48, _⟩ => ⟨S3x4x384x384x8, .f32⟩
  | .hbm, ⟨49, _⟩ => ⟨S3x4x8x384x384, .f32⟩
  | .hbm, ⟨50, _⟩ => ⟨S4x8, .f32⟩
  | .hbm, ⟨51, _⟩ => ⟨S4x1, .f32⟩
  | .hbm, ⟨52, _⟩ => ⟨S4x8, .f32⟩
  | .hbm, ⟨53, _⟩ => ⟨S4x8, .f32⟩
  | .hbm, ⟨54, _⟩ => ⟨S_, .f32⟩
  | .hbm, ⟨55, _⟩ => ⟨S4x8, .f32⟩
  | .hbm, ⟨56, _⟩ => ⟨S4x8, .f32⟩
  | .hbm, ⟨57, _⟩ => ⟨S1x4x8x1x1, .f32⟩
  | .hbm, ⟨58, _⟩ => ⟨S3x4x8x384x384, .f32⟩
  | .hbm, ⟨59, _⟩ => ⟨S3x4x8x384x384, .f32⟩
  | .hbm, ⟨60, _⟩ => ⟨S3x1x1x384x384, .i1⟩
  | .hbm, ⟨61, _⟩ => ⟨S_, .f32⟩
  | .hbm, ⟨62, _⟩ => ⟨S_, .f32⟩
  | .hbm, ⟨63, _⟩ => ⟨S3x4x8x384x384, .i1⟩
  | .hbm, ⟨64, _⟩ => ⟨S3x4x8x384x384, .f32⟩
  | .hbm, ⟨65, _⟩ => ⟨S3x4x8x384x384, .f32⟩
  | .hbm, ⟨66, _⟩ => ⟨S3x4x8x384x1, .f32⟩
  | .hbm, ⟨67, _⟩ => ⟨S3x4x8x384x384, .f32⟩
  | .hbm, ⟨68, _⟩ => ⟨S3x4x8x384x384, .f32⟩
  | .hbm, ⟨69, _⟩ => ⟨S3x4x8x384x384, .f32⟩
  | .hbm, ⟨70, _⟩ => ⟨S3x4x384x384x8, .f32⟩
  | .hbm, ⟨71, _⟩ => ⟨S3x4x8x384x384, .f32⟩
  | .hbm, ⟨72, _⟩ => ⟨S3x1x1x384x1, .f32⟩
  | .hbm, ⟨73, _⟩ => ⟨S3x4x8x384x384, .f32⟩
  | .hbm, ⟨74, _⟩ => ⟨S3x4x8x384x384, .f32⟩
  | .hbm, ⟨75, _⟩ => ⟨S1x4x1x1x1, .f32⟩
  | .hbm, ⟨76, _⟩ => ⟨S3x4x8x384x384, .f32⟩
  | .hbm, ⟨77, _⟩ => ⟨S3x4x8x384x384, .f32⟩
  | .hbm, ⟨78, _⟩ => ⟨S3x4x8x384x1, .f32⟩
  | .hbm, ⟨79, _⟩ => ⟨S3x4x8x384x384, .f32⟩
  | .hbm, ⟨80, _⟩ => ⟨S3x4x8x384x384, .f32⟩
  | .hbm, ⟨81, _⟩ => ⟨S3x4x8x384x384, .f32⟩
  | .hbm, ⟨82, _⟩ => ⟨S3x4x8x384x384, .bf16⟩
  | .hbm, ⟨83, _⟩ => ⟨S3x4x64x8x384, .f32⟩
  | .hbm, ⟨84, _⟩ => ⟨S3x384x4x8x64, .f32⟩
  | .hbm, ⟨85, _⟩ => ⟨S_, .f32⟩
  | .hbm, ⟨86, _⟩ => ⟨S4, .f32⟩
  | .hbm, ⟨87, _⟩ => ⟨S4, .f32⟩
  | .hbm, ⟨88, _⟩ => ⟨S1x1x4x1x1, .f32⟩
  | .hbm, ⟨89, _⟩ => ⟨S3x384x4x8x64, .f32⟩
  | .hbm, ⟨90, _⟩ => ⟨S3x384x4x8x64, .f32⟩
  | .hbm, ⟨91, _⟩ => ⟨S3x4x8x384x384, .bf16⟩
  | .hbm, ⟨92, _⟩ => ⟨S3x4x64x384, .f32⟩
  | .hbm, ⟨93, _⟩ => ⟨S3x384x4x64, .f32⟩
  | .hbm, ⟨94, _⟩ => ⟨S_, .f32⟩
  | .hbm, ⟨95, _⟩ => ⟨S3x384x4x64, .f32⟩
  | .hbm, ⟨96, _⟩ => ⟨S3x384x4x64, .f32⟩
  | .hbm, ⟨97, _⟩ => ⟨S3x4x8x384x384, .bf16⟩
  | .hbm, ⟨98, _⟩ => ⟨S3x4x64x384, .f32⟩
  | .hbm, ⟨99, _⟩ => ⟨S3x384x4x64, .f32⟩
  | .hbm, ⟨100, _⟩ => ⟨S3x384x32x64, .f32⟩
  | .hbm, ⟨101, _⟩ => ⟨S3x384x32x64, .bf16⟩
  | .hbm, ⟨102, _⟩ => ⟨S3x384x4x64, .bf16⟩
  | .hbm, ⟨103, _⟩ => ⟨S3x384x4x64, .bf16⟩
  | .local _ .vmem, ⟨0, _⟩ => ⟨S3x384x32x64, .fp8e4m3⟩
  | .local _ .vmem, ⟨1, _⟩ => ⟨S3x384x4x64, .fp8e4m3⟩
  | .local _ .vmem, ⟨2, _⟩ => ⟨S3x384x4x64, .fp8e4m3⟩
  | .local _ .vmem, ⟨3, _⟩ => ⟨S3x384x32x64, .fp8e5m2⟩
  | .local _ .vmem, ⟨4, _⟩ => ⟨S3x384x32x64, .bf16⟩
  | .local _ .vmem, ⟨5, _⟩ => ⟨S3x384x4x64, .bf16⟩
  | .local _ .vmem, ⟨6, _⟩ => ⟨S3x384x4x64, .bf16⟩
  | .local _ .vmem, ⟨7, _⟩ => ⟨S3x384x32x64, .bf16⟩
  | _, _ => ⟨S3x384x32x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_0 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_1 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_2 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3x384x32x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x384x4x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x384x4x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x384x32x64 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x384x32x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x384x4x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x384x4x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x384x32x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Unit.lean ====
module
public import proofs.«01_k».proof.Proof.Gen.KernelIdeal.Skeleton
public import Idealize.ShloMosaic.Lib.Pointwise
public import Idealize.ShloMosaic.Lib.Pointwise.IndexVar
public import Idealize.ShloMosaic.Lib.MatmulPlain
@[expose] public section
set_option maxRecDepth 16384
noncomputable section
open Idealize.ShloMosaic Idealize.ShloMosaic.TcCoe Idealize.SL.Sem
namespace Cert.KernelIdeal.Value
open Cert.KernelIdeal Cert.KernelIdeal.Gen
variable {F : FTy → Type} [FloatOps F] [Named F]

/-- The shape facts of one unit of work: `M` keys against two heads of 128 queries. -/
structure UF (M : ℕ) : Prop where
  s0 : (⟨2, ![M, 256]⟩ : Shape).Slices ![0, 0] ⟨2, ![M, 128]⟩
  s1 : (⟨2, ![M, 256]⟩ : Shape).Slices ![0, 128] ⟨2, ![M, 128]⟩
  br : S1x128.Broadcasts ⟨2, ![M, 128]⟩
  cc : Shape.Concatenates [⟨2, ![M, 128]⟩, ⟨2, ![M, 128]⟩] ⟨2, ![M, 256]⟩ 1

theorem uf128 : UF 128 := ⟨slices_S128x256_o0_0_S128x128, slices_S128x256_o0_128_S128x128, broadcasts_S1x128_S128x128, concatenates_S128x128_S128x128_S128x256_d1⟩
theorem uf256 : UF 256 := ⟨slices_S256x256_o0_0_S256x128, slices_S256x256_o0_128_S256x128, broadcasts_S1x128_S256x128, concatenates_S256x128_S256x128_S256x256_d1⟩
theorem uf384 : UF 384 := ⟨slices_S384x256_o0_0_S384x128, slices_S384x256_o0_128_S384x128, broadcasts_S1x128_S384x128, concatenates_S384x128_S384x128_S384x256_d1⟩

/-- What a unit loads of one query head. -/
structure Head (F : FTy → Type) [FloatOps F] where
  q : Vec F S1x1x64x128 .fp8e4m3
  qs : Elt F .f32
  dO : Vec F S1x1x64x128 .fp8e5m2
  o : Vec F S1x1x64x128 .bf16
  lse : Vec F S1x1x128 .f32

/-- The row numbers of the 16 extra rows. -/
def arow : IVec S16x128 32 := iota .tc S16x128 32 [0] iota_S16x128_d0_w32

/-- The scaled upstream gradient with the three parts of its row sums below it. -/
def hAug (dos : FVec F S1x128 .f32) (H : Head F) : FVec F S80x128 .bf16 :=
  k0_pay28 arow (k0_pay19 dos H.dO) (k0_pay21 dos H.dO H.o) (k0_pay23 dos H.dO H.o) (k0_pay24 dos H.dO H.o)
    (k0_pay25 arow) (k0_pay26 arow) k0_pay27

variable (M : ℕ) (uf : UF M)

/-- The scores of a unit. -/
def uS (k8 : FVec F ⟨2, ![M, 64]⟩ .fp8e4m3) (H0 H1 : Head F) : FVec F ⟨2, ![M, 256]⟩ .f32 :=
  matmul (DotDims.plain M 64 256) none k8
    (concatenate S64x256 1 [⟨S64x128, k0_pay16 H0.q⟩, ⟨S64x128, k0_pay16 H1.q⟩] concatenates_S64x128_S64x128_S64x256_d1)
    (constant ⟨2, ![M, 256]⟩ .f32 0x00000000#32)

/-- The gradient of the probabilities of a unit, less the row sums. -/
def uDP (va : FVec F ⟨2, ![M, 80]⟩ .bf16) (dos : FVec F S1x128 .f32) (H0 H1 : Head F) : FVec F ⟨2, ![M, 256]⟩ .f32 :=
  matmul (DotDims.plain M 80 256) none va
    (concatenate S80x256 1 [⟨S80x128, hAug dos H0⟩, ⟨S80x128, hAug dos H1⟩] concatenates_S80x128_S80x128_S80x256_d1)
    (constant ⟨2, ![M, 256]⟩ .f32 0x00000000#32)

/-- The probabilities of the first head of a unit. -/
def uP0 (k8 : FVec F ⟨2, ![M, 64]⟩ .fp8e4m3) (ks : Elt F .f32) (b : FVec F ⟨2, ![M, 128]⟩ .f32) (H0 H1 : Head F) :
    FVec F ⟨2, ![M, 128]⟩ .f32 :=
  exp2 (addf (subf (mulf (extractStridedSlice ⟨2, ![M, 128]⟩ ![0, 0] (uS M k8 H0 H1) uf.s0)
    (broadcast ⟨2, ![M, 128]⟩ (k0_pay29 ks H0.qs))) (broadcastTo ⟨2, ![M, 128]⟩ (k0_pay30 H0.lse) uf.br)) b)

/-- The probabilities of the second head of a unit. -/
def uP1 (k8 : FVec F ⟨2, ![M, 64]⟩ .fp8e4m3) (ks : Elt F .f32) (b : FVec F ⟨2, ![M, 128]⟩ .f32) (H0 H1 : Head F) :
    FVec F ⟨2, ![M, 128]⟩ .f32 :=
  exp2 (addf (subf (mulf (extractStridedSlice ⟨2, ![M, 128]⟩ ![0, 128] (uS M k8 H0 H1) uf.s1)
    (broadcast ⟨2, ![M, 128]⟩ (k0_pay29 ks H1.qs))) (broadcastTo ⟨2, ![M, 128]⟩ (k0_pay30 H1.lse) uf.br)) b)

/-- The probabilities of a unit, both heads. -/
def uP (k8 : FVec F ⟨2, ![M, 64]⟩ .fp8e4m3) (ks : Elt F .f32) (b : FVec F ⟨2, ![M, 128]⟩ .f32) (H0 H1 : Head F) :
    FVec F ⟨2, ![M, 256]⟩ .bf16 :=
  concatenate ⟨2, ![M, 256]⟩ 1 [⟨⟨2, ![M, 128]⟩, truncf .bf16 (uP0 M uf k8 ks b H0 H1) bitsLt_bf16_f32⟩,
    ⟨⟨2, ![M, 128]⟩, truncf .bf16 (uP1 M uf k8 ks b H0 H1) bitsLt_bf16_f32⟩] uf.cc

/-- The gradient of the scores of a unit, both heads. -/
def uDS (k8 : FVec F ⟨2, ![M, 64]⟩ .fp8e4m3) (va : FVec F ⟨2, ![M, 80]⟩ .bf16) (ks : Elt F .f32) (dos : FVec F S1x128 .f32)
    (b : FVec F ⟨2, ![M, 128]⟩ .f32) (H0 H1 : Head F) : FVec F ⟨2, ![M, 256]⟩ .bf16 :=
  concatenate ⟨2, ![M, 256]⟩ 1
    [⟨⟨2, ![M, 128]⟩, truncf .bf16 (mulf (uP0 M uf k8 ks b H0 H1) (extractStridedSlice ⟨2, ![M, 128]⟩ ![0, 0] (uDP M va dos H0 H1) uf.s0)) bitsLt_bf16_f32⟩,
     ⟨⟨2, ![M, 128]⟩, truncf .bf16 (mulf (uP1 M uf k8 ks b H0 H1) (extractStridedSlice ⟨2, ![M, 128]⟩ ![0, 128] (uDP M va dos H0 H1) uf.s1)) bitsLt_bf16_f32⟩] uf.cc

/-- A unit's query gradient, both heads. -/
def uDQ (kT : FVec F ⟨2, ![64, M]⟩ .bf16) (k8 : FVec F ⟨2, ![M, 64]⟩ .fp8e4m3) (va : FVec F ⟨2, ![M, 80]⟩ .bf16) (ks : Elt F .f32)
    (dos : FVec F S1x128 .f32) (b : FVec F ⟨2, ![M, 128]⟩ .f32) (H0 H1 : Head F) : FVec F S64x256 .f32 :=
  mulf (matmul (DotDims.plain 64 M 256) none kT (uDS M uf k8 va ks dos b H0 H1) (constant S64x256 .f32 0x00000000#32))
    (broadcast S64x256 (Scalar.mulf ks (Scalar.ofBits .f32 0x3E000000#32 : F .f32)))

/-- A unit's query gradient of its first head, as it is stored. -/
def uDQ0 (kT : FVec F ⟨2, ![64, M]⟩ .bf16) (k8 : FVec F ⟨2, ![M, 64]⟩ .fp8e4m3) (va : FVec F ⟨2, ![M, 80]⟩ .bf16) (ks : Elt F .f32)
    (dos : FVec F S1x128 .f32) (b : FVec F ⟨2, ![M, 128]⟩ .f32) (H0 H1 : Head F) : FVec F S1x1x64x128 .bf16 :=
  shapeCast S1x1x64x128 (truncf .bf16 (extractStridedSlice S64x128 ![0, 0] (uDQ M uf kT k8 va ks dos b H0 H1) slices_S64x256_o0_0_S64x128) bitsLt_bf16_f32) shapeCasts_S64x128_S1x1x64x128

/-- A unit's query gradient of its second head, as it is stored. -/
def uDQ1 (kT : FVec F ⟨2, ![64, M]⟩ .bf16) (k8 : FVec F ⟨2, ![M, 64]⟩ .fp8e4m3) (va : FVec F ⟨2, ![M, 80]⟩ .bf16) (ks : Elt F .f32)
    (dos : FVec F S1x128 .f32) (b : FVec F ⟨2, ![M, 128]⟩ .f32) (H0 H1 : Head F) : FVec F S1x1x64x128 .bf16 :=
  shapeCast S1x1x64x128 (truncf .bf16 (extractStridedSlice S64x128 ![0, 128] (uDQ M uf kT k8 va ks dos b H0 H1) slices_S64x256_o0_128_S64x128) bitsLt_bf16_f32) shapeCasts_S64x128_S1x1x64x128

/-- A unit's part of the key gradient. -/
def uDK (k8 : FVec F ⟨2, ![M, 64]⟩ .fp8e4m3) (va : FVec F ⟨2, ![M, 80]⟩ .bf16) (ks : Elt F .f32)
    (dos : FVec F S1x128 .f32) (b : FVec F ⟨2, ![M, 128]⟩ .f32) (H0 H1 : Head F) : FVec F ⟨2, ![64, M]⟩ .f32 :=
  matmul (DotDims.transposedRhs 64 256 M) none
    (concatenate S64x256 1 [⟨S64x128, k0_pay17 H0.q H0.qs⟩, ⟨S64x128, k0_pay17 H1.q H1.qs⟩] concatenates_S64x128_S64x128_S64x256_d1)
    (uDS M uf k8 va ks dos b H0 H1) (constant ⟨2, ![64, M]⟩ .f32 0x00000000#32)

/-- A unit's part of the value gradient. -/
def uDV (k8 : FVec F ⟨2, ![M, 64]⟩ .fp8e4m3) (ks : Elt F .f32)
    (dos : FVec F S1x128 .f32) (b : FVec F ⟨2, ![M, 128]⟩ .f32) (H0 H1 : Head F) : FVec F ⟨2, ![64, M]⟩ .f32 :=
  matmul (DotDims.transposedRhs 64 256 M) none
    (concatenate S64x256 1 [⟨S64x128, k0_pay19 dos H0.dO⟩, ⟨S64x128, k0_pay19 dos H1.dO⟩] concatenates_S64x128_S64x128_S64x256_d1)
    (uP M uf k8 ks b H0 H1) (constant ⟨2, ![64, M]⟩ .f32 0x00000000#32)

end Cert.KernelIdeal.Value
end
end
-- ==== Proof.Step.lean ====
module
public import proofs.«01_k».proof.Proof.Unit
public import Idealize.ShloMosaic.Lib.Pipeline.ValueKit
@[expose] public section
set_option maxRecDepth 16384
noncomputable section
open Idealize.ShloMosaic Idealize.ShloMosaic.TcCoe Idealize.SL.Sem
namespace Cert.KernelIdeal.Value
open Cert.KernelIdeal Cert.KernelIdeal.Gen
variable {F : FTy → Type} [FloatOps F] [Named F]

/-- What one grid step reads: its blocks, its scalars, its row of scales and the three tiles of the mask. -/
structure Step (F : FTy → Type) [FloatOps F] where
  Q : Vec F S1x8x64x384 .fp8e4m3
  K : Vec F S1x1x64x384 .fp8e4m3
  V : Vec F S1x1x64x384 .fp8e4m3
  O : Vec F S1x8x64x384 .bf16
  L : Vec F S1x8x384 .f32
  dO : Vec F S1x8x64x384 .fp8e5m2
  ks : Elt F .f32
  vs : Elt F .f32
  qs : Fin 8 → Elt F .f32
  dosr : Vec F S1x384 .f32
  b0 : Vec F S1x128x128 .f32
  b1 : Vec F S1x256x128 .f32
  b2 : Vec F S1x384x128 .f32

/-- A head's tile of 128 queries lies in the block. -/
theorem inbH (h : Fin 8) (j : Fin 3) : ∀ a, (![0, h.val, 0, 128 * j.val] : Fin 4 → Nat) a + S1x1x64x128.size a ≤ S1x8x64x384.size a := by
  revert h j; decide +kernel
/-- A head's tile of 128 statistics lies in the block. -/
theorem inbL (h : Fin 8) (j : Fin 3) : ∀ a, (![0, h.val, 128 * j.val] : Fin 3 → Nat) a + S1x1x128.size a ≤ S1x8x384.size a := by
  revert h j; decide +kernel

namespace Step
variable (D : Step F)

/-- What the step reads of head `h` for query tile `j`. -/
def hd (h : Fin 8) (j : Fin 3) : Head F where
  q := View.ld (Val := Elt F) (e' := .fp8e4m3) D.Q (Rect.unit (s := S1x8x64x384) ![0, h.val, 0, 128 * j.val] S1x1x64x128.size (inbH h j))
  qs := D.qs h
  dO := View.ld (Val := Elt F) (e' := .fp8e5m2) D.dO (Rect.unit (s := S1x8x64x384) ![0, h.val, 0, 128 * j.val] S1x1x64x128.size (inbH h j))
  o := View.ld (Val := Elt F) (e' := .bf16) D.O (Rect.unit (s := S1x8x64x384) ![0, h.val, 0, 128 * j.val] S1x1x64x128.size (inbH h j))
  lse := View.ld (Val := Elt F) (e' := .f32) D.L (Rect.unit (s := S1x8x384) ![0, h.val, 128 * j.val] S1x1x128.size (inbL h j))

end Step

/-- The operands of a query tile's units: the first `M` keys and values, the tile's scales and mask. -/
structure Tile (F : FTy → Type) [FloatOps F] (M : ℕ) where
  kT : FVec F ⟨2, ![64, M]⟩ .bf16
  k8 : FVec F ⟨2, ![M, 64]⟩ .fp8e4m3
  va : FVec F ⟨2, ![M, 80]⟩ .bf16
  dos : FVec F S1x128 .f32
  b : FVec F ⟨2, ![M, 128]⟩ .f32

namespace Step
variable (D : Step F)

/-- Query tile 0: 128 keys. -/
def t0 : Tile F 128 where
  kT := extractStridedSlice S64x128 ![0, 0] (k0_pay10 D.K) slices_S64x384_o0_0_S64x128
  k8 := extractStridedSlice S128x64 ![0, 0] (k0_pay9 D.K) slices_S384x64_o0_0_S128x64
  va := extractStridedSlice S128x80 ![0, 0] (k0_pay11 D.V D.vs) slices_S384x80_o0_0_S128x80
  dos := extractStridedSlice S1x128 ![0, 0] D.dosr slices_S1x384_o0_0_S1x128
  b := shapeCast S128x128 D.b0 shapeCasts_S1x128x128_S128x128

/-- Query tile 1: 256 keys. -/
def t1 : Tile F 256 where
  kT := extractStridedSlice S64x256 ![0, 0] (k0_pay10 D.K) slices_S64x384_o0_0_S64x256
  k8 := extractStridedSlice S256x64 ![0, 0] (k0_pay9 D.K) slices_S384x64_o0_0_S256x64
  va := extractStridedSlice S256x80 ![0, 0] (k0_pay11 D.V D.vs) slices_S384x80_o0_0_S256x80
  dos := extractStridedSlice S1x128 ![0, 128] D.dosr slices_S1x384_o0_128_S1x128
  b := shapeCast S256x128 D.b1 shapeCasts_S1x256x128_S256x128

/-- Query tile 2: all 384 keys. -/
def t2 : Tile F 384 where
  kT := k0_pay10 D.K
  k8 := k0_pay9 D.K
  va := k0_pay11 D.V D.vs
  dos := extractStridedSlice S1x128 ![0, 256] D.dosr slices_S1x384_o0_256_S1x128
  b := shapeCast S384x128 D.b2 shapeCasts_S1x384x128_S384x128

/-- The query gradient of tile 0 of the first of heads `h0`, `h1`. -/
def dq00 (h0 h1 : Fin 8) : FVec F S1x1x64x128 .bf16 :=
  uDQ0 128 uf128 D.t0.kT D.t0.k8 D.t0.va D.ks D.t0.dos D.t0.b (D.hd h0 0) (D.hd h1 0)
/-- The query gradient of tile 0 of the second of heads `h0`, `h1`. -/
def dq01 (h0 h1 : Fin 8) : FVec F S1x1x64x128 .bf16 :=
  uDQ1 128 uf128 D.t0.kT D.t0.k8 D.t0.va D.ks D.t0.dos D.t0.b (D.hd h0 0) (D.hd h1 0)
/-- The query gradient of tile 1 of the first of heads `h0`, `h1`. -/
def dq10 (h0 h1 : Fin 8) : FVec F S1x1x64x128 .bf16 :=
  uDQ0 256 uf256 D.t1.kT D.t1.k8 D.t1.va D.ks D.t1.dos D.t1.b (D.hd h0 1) (D.hd h1 1)
/-- The query gradient of tile 1 of the second of heads `h0`, `h1`. -/
def dq11 (h0 h1 : Fin 8) : FVec F S1x1x64x128 .bf16 :=
  uDQ1 256 uf256 D.t1.kT D.t1.k8 D.t1.va D.ks D.t1.dos D.t1.b (D.hd h0 1) (D.hd h1 1)
/-- The query gradient of tile 2 of the first of heads `h0`, `h1`. -/
def dq20 (h0 h1 : Fin 8) : FVec F S1x1x64x128 .bf16 :=
  uDQ0 384 uf384 D.t2.kT D.t2.k8 D.t2.va D.ks D.t2.dos D.t2.b (D.hd h0 2) (D.hd h1 2)
/-- The query gradient of tile 2 of the second of heads `h0`, `h1`. -/
def dq21 (h0 h1 : Fin 8) : FVec F S1x1x64x128 .bf16 :=
  uDQ1 384 uf384 D.t2.kT D.t2.k8 D.t2.va D.ks D.t2.dos D.t2.b (D.hd h0 2) (D.hd h1 2)

/-- The key gradient's part from query tile 0 and heads `h0`, `h1`. -/
def dk0 (h0 h1 : Fin 8) : FVec F S64x128 .f32 :=
  uDK 128 uf128 D.t0.k8 D.t0.va D.ks D.t0.dos D.t0.b (D.hd h0 0) (D.hd h1 0)
/-- The key gradient's part from query tile 1 and heads `h0`, `h1`. -/
def dk1 (h0 h1 : Fin 8) : FVec F S64x256 .f32 :=
  uDK 256 uf256 D.t1.k8 D.t1.va D.ks D.t1.dos D.t1.b (D.hd h0 1) (D.hd h1 1)
/-- The key gradient's part from query tile 2 and heads `h0`, `h1`. -/
def dk2 (h0 h1 : Fin 8) : FVec F S64x384 .f32 :=
  uDK 384 uf384 D.t2.k8 D.t2.va D.ks D.t2.dos D.t2.b (D.hd h0 2) (D.hd h1 2)
/-- The value gradient's part from query tile 0 and heads `h0`, `h1`. -/
def dv0 (h0 h1 : Fin 8) : FVec F S64x128 .f32 :=
  uDV 128 uf128 D.t0.k8 D.ks D.t0.dos D.t0.b (D.hd h0 0) (D.hd h1 0)
/-- The value gradient's part from query tile 1 and heads `h0`, `h1`. -/
def dv1 (h0 h1 : Fin 8) : FVec F S64x256 .f32 :=
  uDV 256 uf256 D.t1.k8 D.ks D.t1.dos D.t1.b (D.hd h0 1) (D.hd h1 1)
/-- The value gradient's part from query tile 2 and heads `h0`, `h1`. -/
def dv2 (h0 h1 : Fin 8) : FVec F S64x384 .f32 :=
  uDV 384 uf384 D.t2.k8 D.ks D.t2.dos D.t2.b (D.hd h0 2) (D.hd h1 2)

/-- Four parts added up. -/
def sum4 (f : Fin 8 → Fin 8 → FVec F S64x128 .f32) : FVec F S64x128 .f32 :=
  addf (addf (addf (f 0 1) (f 2 3)) (f 4 5)) (f 6 7)
/-- Four parts added to a total. -/
def add4 (a : FVec F S64x128 .f32) (f : Fin 8 → Fin 8 → FVec F S64x128 .f32) : FVec F S64x128 .f32 :=
  addf (addf (addf (addf a (f 0 1)) (f 2 3)) (f 4 5)) (f 6 7)
/-- The tile of keys at 0, 128 or 256 of a part over 256 or 384 keys. -/
def sl10 (f : Fin 8 → Fin 8 → FVec F S64x256 .f32) (h0 h1 : Fin 8) : FVec F S64x128 .f32 :=
  extractStridedSlice S64x128 ![0, 0] (f h0 h1) slices_S64x256_o0_0_S64x128
@[inherit_doc sl10]
def sl11 (f : Fin 8 → Fin 8 → FVec F S64x256 .f32) (h0 h1 : Fin 8) : FVec F S64x128 .f32 :=
  extractStridedSlice S64x128 ![0, 128] (f h0 h1) slices_S64x256_o0_128_S64x128
@[inherit_doc sl10]
def sl20 (f : Fin 8 → Fin 8 → FVec F S64x384 .f32) (h0 h1 : Fin 8) : FVec F S64x128 .f32 :=
  extractStridedSlice S64x128 ![0, 0] (f h0 h1) slices_S64x384_o0_0_S64x128
@[inherit_doc sl10]
def sl21 (f : Fin 8 → Fin 8 → FVec F S64x384 .f32) (h0 h1 : Fin 8) : FVec F S64x128 .f32 :=
  extractStridedSlice S64x128 ![0, 128] (f h0 h1) slices_S64x384_o0_128_S64x128
@[inherit_doc sl10]
def sl22 (f : Fin 8 → Fin 8 → FVec F S64x384 .f32) (h0 h1 : Fin 8) : FVec F S64x128 .f32 :=
  extractStridedSlice S64x128 ![0, 256] (f h0 h1) slices_S64x384_o0_256_S64x128

/-- The three tiles of a key or value gradient, added up over the query tiles and the heads. -/
def acc0 (f0 : Fin 8 → Fin 8 → FVec F S64x128 .f32) (f1 : Fin 8 → Fin 8 → FVec F S64x256 .f32) (f2 : Fin 8 → Fin 8 → FVec F S64x384 .f32) :
    FVec F S64x128 .f32 := add4 (add4 (sum4 f0) (sl10 f1)) (sl20 f2)
@[inherit_doc acc0]
def acc1 (f1 : Fin 8 → Fin 8 → FVec F S64x256 .f32) (f2 : Fin 8 → Fin 8 → FVec F S64x384 .f32) :
    FVec F S64x128 .f32 := add4 (sum4 (sl11 f1)) (sl21 f2)
@[inherit_doc acc0]
def acc2 (f2 : Fin 8 → Fin 8 → FVec F S64x384 .f32) : FVec F S64x128 .f32 := sum4 (sl22 f2)

/-- A tile of the value gradient as it is stored. -/
def stV (a : FVec F S64x128 .f32) : FVec F S1x1x64x128 .bf16 :=
  shapeCast S1x1x64x128 (truncf .bf16 a bitsLt_bf16_f32) shapeCasts_S64x128_S1x1x64x128
/-- A tile of the key gradient as it is stored. -/
def stK (a : FVec F S64x128 .f32) : FVec F S1x1x64x128 .bf16 :=
  shapeCast S1x1x64x128 (truncf .bf16 (mulf a (broadcast S64x128 (Scalar.ofBits .f32 0x3E000000#32 : F .f32))) bitsLt_bf16_f32) shapeCasts_S64x128_S1x1x64x128

end Step
end Cert.KernelIdeal.Value
end
end
-- ==== Proof.Base.lean ====
module
public import proofs.«01_k».proof.Proof.Step
public import proofs.«01_k».proof.Proof.Gen.KernelIdeal.Frame
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-- What grid step `t` reads, the mask's tiles being `b0`, `b1`, `b2`. -/
def stepAt (c : Dev nD) (t : Fin cfg0.N) (b0 : Vec Ideal S1x128x128 .f32) (b1 : Vec Ideal S1x256x128 .f32) (b2 : Vec Ideal S1x384x128 .f32) :
    Step Ideal where
  Q := iblk m c 5 t
  K := iblk m c 6 t
  V := iblk m c 7 t
  O := iblk m c 8 t
  L := iblk m c 9 t
  dO := iblk m c 10 t
  ks := View.ld (Val := Elt Ideal) (e' := .f32) (iblk m c 1 t) (Rect.unit (s := S4) (k0_off1 (grid0.coords t)) S1.size (k0_off1_inb _)) (Shape.Idx.first (show 0 < S1.numel from numel1_S1 ▸ Nat.one_pos))
  vs := View.ld (Val := Elt Ideal) (e' := .f32) (iblk m c 2 t) (Rect.unit (s := S4) (k0_off1 (grid0.coords t)) S1.size (k0_off1_inb _)) (Shape.Idx.first (show 0 < S1.numel from numel1_S1 ▸ Nat.one_pos))
  qs h := View.ld (Val := Elt Ideal) (e' := .f32) (iblk m c 0 t) (Rect.unit (s := S32) (k0_off2 (grid0.coords t) (BitVec.ofNat 32 h.val)) S1.size (k0_off2_inb _ h)) (Shape.Idx.first (show 0 < S1.numel from numel1_S1 ▸ Nat.one_pos))
  dosr := k0_pay12 (grid0.coords t)
    (View.ld (Val := Elt Ideal) (e' := .f32) (iblk m c 3 t) (Rect.unit (s := S3x384) ![0, 0] S1x384.size inb_S3x384_S1x384_0_0))
    (View.ld (Val := Elt Ideal) (e' := .f32) (iblk m c 3 t) (Rect.unit (s := S3x384) ![1, 0] S1x384.size inb_S3x384_S1x384_1_0))
    (View.ld (Val := Elt Ideal) (e' := .f32) (iblk m c 3 t) (Rect.unit (s := S3x384) ![2, 0] S1x384.size inb_S3x384_S1x384_2_0))
  b0 := b0
  b1 := b1
  b2 := b2

/-- The step at a point that works with the mask `X`. -/
def stepX (c : Dev nD) (t : Fin cfg0.N) (X : Vec Ideal S3x384x128 .f32) : Step Ideal :=
  stepAt m c t
    (View.ld (Val := Elt Ideal) (e' := .f32) X (Rect.unit (s := S3x384x128) ![0, 0, 0] S1x128x128.size inb_S3x384x128_S1x128x128_0_0_0))
    (View.ld (Val := Elt Ideal) (e' := .f32) X (Rect.unit (s := S3x384x128) ![1, 0, 0] S1x256x128.size inb_S3x384x128_S1x256x128_1_0_0))
    (View.ld (Val := Elt Ideal) (e' := .f32) X (Rect.unit (s := S3x384x128) ![2, 0, 0] S1x384x128.size inb_S3x384x128_S1x384x128_2_0_0))

end Cert.KernelIdeal.Value
end
end
-- ==== Proof.Attn.lean ====
module
public import Idealize.ShloMosaic.Lib.Pointwise
@[expose] public section
noncomputable section
open Idealize.ShloMosaic
namespace Cert.Attn

/-- The named constant `log₂ e / 8`. -/
def kap8 : EReal := ((8⁻¹ * (Real.log 2)⁻¹ : ℝ) : EReal)
/-- The named constant `log₂ e`. -/
def kap1 : EReal := (((Real.log 2)⁻¹ : ℝ) : EReal)
/-- The constant 1/8 of the program text. -/
def c8 : EReal := Ideal.ofBits .f32 0x3E000000#32

/-- The arguments of the attention's backward pass, entry by entry. -/
structure Args where
  q : Fin 3 → Fin 384 → Fin 32 → Fin 64 → EReal
  qs : Fin 32 → EReal
  k : Fin 3 → Fin 384 → Fin 4 → Fin 64 → EReal
  ks : Fin 4 → EReal
  v : Fin 3 → Fin 384 → Fin 4 → Fin 64 → EReal
  vs : Fin 4 → EReal
  o : Fin 3 → Fin 384 → Fin 32 → Fin 64 → EReal
  lse : Fin 3 → Fin 32 → Fin 384 → EReal
  dO : Fin 3 → Fin 384 → Fin 32 → Fin 64 → EReal
  dos : Fin 3 → Fin 384 → EReal
  seg : Fin 3 → Fin 384 → BitVec 32

/-- Head `h` of the eight that read key/value head `kv`. -/
def hOf (kv : Fin 4) (h : Fin 8) : Fin 32 := ⟨8 * kv.val + h.val, by omega⟩

namespace Args
variable (A : Args) (b : Fin 3) (kv : Fin 4)

/-- A query sees a key of its own segment that does not come after it. -/
def sees (r i : Fin 384) : Prop := A.seg b r = A.seg b i ∧ r.val ≤ i.val
instance (r i : Fin 384) : Decidable (A.sees b r i) := inferInstanceAs (Decidable (_ ∧ _))

/-- The score of key `r` and query `i` before the scales. -/
def s (h : Fin 8) (r i : Fin 384) : EReal := ∑ d : Fin 64, A.k b r kv d * A.q b i (hOf kv h) d
/-- The row sum. -/
def dl (h : Fin 8) (i : Fin 384) : EReal := ∑ d : Fin 64, A.dO b i (hOf kv h) d * A.dos b i * A.o b i (hOf kv h) d

/-- The kernel's probability. -/
def kp (h : Fin 8) (r i : Fin 384) : EReal :=
  Ideal.exp2 (A.s b kv h r i * (A.qs (hOf kv h) * A.ks kv * kap8) - A.lse b (hOf kv h) i * kap1 + if A.sees b r i then 0 else ⊥)
/-- The kernel's gradient of a probability, less the row sum. -/
def kdp (h : Fin 8) (r i : Fin 384) : EReal :=
  (∑ d : Fin 64, (A.v b r kv d * A.vs kv) * (A.dO b i (hOf kv h) d * A.dos b i)) + -A.dl b kv h i

/-- The mathematical probability. -/
def rp (h : Fin 8) (r i : Fin 384) : EReal :=
  Ideal.exp ((if A.sees b r i then A.s b kv h r i * (A.qs (hOf kv h) * A.ks kv * c8) else ⊥) - A.lse b (hOf kv h) i)
/-- The mathematical gradient of a probability, less the row sum. -/
def rdp (h : Fin 8) (r i : Fin 384) : EReal :=
  (∑ d : Fin 64, A.dO b i (hOf kv h) d * A.v b r kv d) * A.dos b i * A.vs kv - A.dl b kv h i

section
variable (p dp : Fin 8 → Fin 384 → Fin 384 → EReal)
/-- The query gradient of given probabilities and their gradients. -/
def dq (h : Fin 8) (d : Fin 64) (i : Fin 384) : EReal := (∑ r : Fin 384, A.k b r kv d * (p h r i * dp h r i)) * (A.ks kv * c8)
/-- The key gradient. -/
def dk (d : Fin 64) (r : Fin 384) : EReal := (∑ h : Fin 8, ∑ i : Fin 384, A.q b i (hOf kv h) d * A.qs (hOf kv h) * (p h r i * dp h r i)) * c8
/-- The value gradient. -/
def dv (d : Fin 64) (r : Fin 384) : EReal := ∑ h : Fin 8, ∑ i : Fin 384, A.dO b i (hOf kv h) d * A.dos b i * p h r i
end

theorem c8_eq : c8 = ((8⁻¹ : ℝ) : EReal) := by
  simp [c8, Ideal.ofBits, Ideal.ieee, -EReal.coe_mul]; norm_num

/-- Powers of two of multiples of `log₂ e` are exponentials. -/
theorem exp2_kap1 (x : EReal) : Ideal.exp2 (x * kap1) = Ideal.exp x := by
  have hpos : (0:ℝ) < (Real.log 2)⁻¹ := inv_pos.mpr (Real.log_pos (by norm_num))
  unfold kap1
  induction x with
  | bot => rw [EReal.bot_mul_coe_of_pos hpos]; rfl
  | top => rw [EReal.top_mul_coe_of_pos hpos]; rfl
  | coe x =>
    rw [← EReal.coe_mul]
    simp only [Ideal.exp2_coe, Ideal.exp_coe]
    congr 1
    show (2:ℝ) ^ (x * (Real.log 2)⁻¹) = Real.exp x
    rw [Real.rpow_def_of_pos (by norm_num)]
    congr 1
    field_simp

theorem mul_kap8 (x : EReal) : x * kap8 = x * c8 * kap1 := by
  rw [mul_assoc, c8_eq]; unfold kap8 kap1; rw [← EReal.coe_mul]

/-- Multiplying a difference by the positive constant. -/
theorem sub_mul_kap1 (x y : EReal) : (x - y) * kap1 = x * kap1 - y * kap1 := by
  have hpos : (0:ℝ) < (Real.log 2)⁻¹ := inv_pos.mpr (Real.log_pos (by norm_num))
  unfold kap1
  generalize (Real.log 2)⁻¹ = L at hpos
  rw [sub_eq_add_neg, sub_eq_add_neg, ← EReal.neg_mul]
  exact EReal.right_distrib_of_nonneg_of_ne_top (EReal.coe_nonneg.mpr hpos.le) (EReal.coe_ne_top _) _ _

theorem kp_eq (h : Fin 8) (r i : Fin 384) : A.kp b kv h r i = A.rp b kv h r i := by
  unfold kp rp
  by_cases hs : A.sees b r i
  · rw [if_pos hs, if_pos hs, add_zero, mul_kap8, ← mul_assoc, ← sub_mul_kap1, exp2_kap1]
  · rw [if_neg hs, if_neg hs, EReal.add_bot]
    rw [EReal.bot_sub]; rfl

/-- A finite number that is not negative. -/
def Fin0 (x : EReal) : Prop := 0 ≤ x ∧ x ≠ ⊤

theorem sum_mul {ι : Type} (S : Finset ι) (f : ι → EReal) {x : EReal} (hx : Fin0 x) : (∑ i ∈ S, f i) * x = ∑ i ∈ S, f i * x := by
  classical
  induction S using Finset.induction_on with
  | empty => simp
  | insert a S ha ih =>
    rw [Finset.sum_insert ha, Finset.sum_insert ha, ← ih]
    exact EReal.right_distrib_of_nonneg_of_ne_top hx.1 hx.2 _ _

theorem kdp_eq (hv : Fin0 (A.vs kv)) (h : Fin 8) (r i : Fin 384) (hd : Fin0 (A.dos b i)) : A.kdp b kv h r i = A.rdp b kv h r i := by
  unfold kdp rdp
  rw [sum_mul _ _ hd, sum_mul _ _ hv, sub_eq_add_neg]
  refine congrArg (· + _) (Finset.sum_congr rfl fun d _ => ?_)
  ac_rfl
end Args
end Cert.Attn
end
end
-- ==== Proof.Spec.lean ====
module
public import proofs.«01_k».proof.Proof.Step
public import proofs.«01_k».proof.Proof.Attn
@[expose] public section
set_option maxRecDepth 16384
noncomputable section
open Idealize.ShloMosaic Idealize.ShloMosaic.TcCoe Idealize.SL.Sem
namespace Cert.KernelIdeal.Value
open Cert.KernelIdeal Cert.KernelIdeal.Gen Cert.Attn

variable (M : ℕ) (uf : UF M)

/-- A unit's probability at key `r` and query `l` of its tile. -/
def PF (k8 : FVec Ideal ⟨2, ![M, 64]⟩ .fp8e4m3) (ks : EReal) (b : FVec Ideal ⟨2, ![M, 128]⟩ .f32) (H : Head Ideal) (r : Fin M) (l : Fin 128) : EReal :=
  Ideal.exp2 ((∑ d : Fin 64, k8 (ix2 r d) * H.q (ix4 0 0 d l)) * ((show EReal from H.qs) * ks * kap8) - H.lse (ix3 0 0 l) * kap1 + b (ix2 r l))

/-- A unit's gradient of the probability, less the row sum. -/
def DPF (va : FVec Ideal ⟨2, ![M, 80]⟩ .bf16) (dos : FVec Ideal S1x128 .f32) (H : Head Ideal) (r : Fin M) (l : Fin 128) : EReal :=
  ∑ a : Fin 80, va (ix2 r a) * hAug dos H (ix2 a l)

section
variable (k8 : FVec Ideal ⟨2, ![M, 64]⟩ .fp8e4m3) (kT : FVec Ideal ⟨2, ![64, M]⟩ .bf16) (ks : Elt Ideal .f32) (b : FVec Ideal ⟨2, ![M, 128]⟩ .f32)
  (va : FVec Ideal ⟨2, ![M, 80]⟩ .bf16) (dos : FVec Ideal S1x128 .f32) (H0 H1 : Head Ideal)

/-- The value of a plain matrix product at an entry. -/
theorem mm {m k n : ℕ} {φ₁ φ₂ : FTy} (lhs : FVec Ideal ⟨2, ![m, k]⟩ φ₁) (rhs : FVec Ideal ⟨2, ![k, n]⟩ φ₂) (acc : FVec Ideal ⟨2, ![m, n]⟩ .f32)
    (r : Fin m) (c : Fin n) : Ideal.matmul (DotDims.plain m k n) lhs rhs acc (ix2 r c) = acc (ix2 r c) + ∑ x : Fin k, lhs (ix2 r x) * rhs (ix2 x c) :=
  Ideal.matmul_plain_apply none lhs rhs acc r c

theorem named8 : (Named.named κ "log2e_eighth" 0x3E38AA3B#32 : Ideal .f32) = kap8 := rfl
theorem named1 : (Named.named κ "log2e" 0x3FB8AA3B#32 : Ideal .f32) = kap1 := rfl

theorem uP0_apply (r : Fin M) (l : Fin 128) : uP0 M uf k8 ks b H0 H1 (ix2 r l) = PF M k8 ks b H0 r l := by
  unfold uP0 uS PF
  pointwise [k0_pay16, k0_pay29, k0_pay30, named8, named1]
  rfl

theorem uP1_apply (r : Fin M) (l : Fin 128) : uP1 M uf k8 ks b H0 H1 (ix2 r l) = PF M k8 ks b H1 r l := by
  unfold uP1 uS PF
  pointwise [k0_pay16, k0_pay29, k0_pay30, named8, named1]
  rfl

theorem uDP0_apply (r : Fin M) (l : Fin 128) (h : l.val < 256) : uDP M va dos H0 H1 (ix2 r (⟨l.val, h⟩ : Fin 256)) = DPF M va dos H0 r l := by
  unfold uDP DPF
  pointwise

theorem uDP1_apply (r : Fin M) (l : Fin 128) (h : 128 + l.val < 256) : uDP M va dos H0 H1 (ix2 r (⟨128 + l.val, h⟩ : Fin 256)) = DPF M va dos H1 r l := by
  unfold uDP DPF
  pointwise

theorem uDQ0_apply (d : Fin 64) (l : Fin 128) : uDQ0 M uf kT k8 va ks dos b H0 H1 (ix4 0 0 d l)
    = (∑ r : Fin M, kT (ix2 d r) * (PF M k8 ks b H0 r l * DPF M va dos H0 r l)) * ((show EReal from ks) * c8) := by
  unfold uDQ0 uDQ uDS c8
  pointwise [uP0_apply, uP1_apply, uDP0_apply, uDP1_apply]
  refine congrArg (· * _) ((mm _ _ _ _ _).trans ?_)
  pointwise [uP0_apply, uP1_apply, uDP0_apply, uDP1_apply]

theorem uDQ1_apply (d : Fin 64) (l : Fin 128) : uDQ1 M uf kT k8 va ks dos b H0 H1 (ix4 0 0 d l)
    = (∑ r : Fin M, kT (ix2 d r) * (PF M k8 ks b H1 r l * DPF M va dos H1 r l)) * ((show EReal from ks) * c8) := by
  unfold uDQ1 uDQ uDS c8
  pointwise [uP0_apply, uP1_apply, uDP0_apply, uDP1_apply]
  refine congrArg (· * _) ((mm _ _ _ _ _).trans ?_)
  pointwise [uP0_apply, uP1_apply, uDP0_apply, uDP1_apply]

theorem uDK_apply (d : Fin 64) (r : Fin M) : uDK M uf k8 va ks dos b H0 H1 (ix2 d r)
    = (∑ l : Fin 128, (H0.q (ix4 0 0 d l) * (show EReal from H0.qs)) * (PF M k8 ks b H0 r l * DPF M va dos H0 r l))
      + ∑ l : Fin 128, (H1.q (ix4 0 0 d l) * (show EReal from H1.qs)) * (PF M k8 ks b H1 r l * DPF M va dos H1 r l) := by
  unfold uDK uDS
  pointwise [uP0_apply, uP1_apply, uDP0_apply, uDP1_apply, k0_pay17, k0_pay16]

theorem uDV_apply (d : Fin 64) (r : Fin M) : uDV M uf k8 ks dos b H0 H1 (ix2 d r)
    = (∑ l : Fin 128, (H0.dO (ix4 0 0 d l) * dos (ix2 0 l)) * PF M k8 ks b H0 r l)
      + ∑ l : Fin 128, (H1.dO (ix4 0 0 d l) * dos (ix2 0 l)) * PF M k8 ks b H1 r l := by
  unfold uDV uP
  pointwise [uP0_apply, uP1_apply, uDP0_apply, uDP1_apply, k0_pay19, k0_pay18, k0_pay14]
end

/-! ## A grid step's results over its whole blocks -/

theorem le128 : 128 ≤ 384 := by decide
theorem le256 : 256 ≤ 384 := by decide

/-- Position `l` of query tile `j`. -/
def qi (j : Fin 3) (l : Fin 128) : Fin 384 := ⟨128 * j.val + l.val, by omega⟩
/-- The row sum a head subtracts. -/
def dlH (dos : FVec Ideal S1x128 .f32) (H : Head Ideal) (l : Fin 128) : EReal :=
  ∑ x : Fin 64, H.dO (ix4 0 0 x l) * dos (ix2 0 l) * H.o (ix4 0 0 x l)

section
variable (dos : FVec Ideal S1x128 .f32) (H : Head Ideal)
theorem hAug_lo (x : Fin 64) (l : Fin 128) (h : x.val < 80) : hAug dos H (ix2 (⟨x.val, h⟩ : Fin 80) l) = H.dO (ix4 0 0 x l) * dos (ix2 0 l) := by
  unfold hAug
  pointwise [arow, k0_pay28, k0_pay27, k0_pay26, k0_pay25, k0_pay24, k0_pay23, k0_pay22, k0_pay21, k0_pay20, k0_pay19, k0_pay18, k0_pay14]

theorem hAug_hi (a : Fin 16) (l : Fin 128) (h : 64 + a.val < 80) : hAug dos H (ix2 (⟨64 + a.val, h⟩ : Fin 80) l)
    = if a.val = 0 then dlH dos H l else if a.val = 1 then dlH dos H l - dlH dos H l
      else if a.val = 2 then dlH dos H l - dlH dos H l - (dlH dos H l - dlH dos H l) else 0 := by
  unfold hAug dlH
  pointwise [arow, k0_pay28, k0_pay27, k0_pay26, k0_pay25, k0_pay24, k0_pay23, k0_pay22, k0_pay21, k0_pay20, k0_pay19, k0_pay18, k0_pay14]
  fin_cases a <;> rfl
end
/-- A number minus what the split leaves of it is minus the number, infinities included. -/
theorem neg_split (δ : EReal) : (-1 : EReal) * δ + (-1) * (δ - δ) + (-1) * (δ - δ - (δ - δ)) = -δ := by
  induction δ with
  | bot => simp
  | top => simp
  | coe x => norm_cast; simp

namespace Step
variable (D : Step Ideal) (mk : Fin 384 → Fin 384 → EReal)
/-- A probability. -/
def pX (h : Fin 8) (r i : Fin 384) : EReal :=
  Ideal.exp2 ((∑ d : Fin 64, D.K (ix4 0 0 d r) * D.Q (ix4 0 h d i)) * ((show EReal from D.qs h) * (show EReal from D.ks) * kap8) - D.L (ix3 0 h i) * kap1 + mk r i)
/-- A row sum. -/
def dlX (h : Fin 8) (i : Fin 384) : EReal := ∑ d : Fin 64, D.dO (ix4 0 h d i) * D.dosr (ix2 0 i) * D.O (ix4 0 h d i)
/-- A probability's gradient, less the row sum. -/
def dpX (h : Fin 8) (r i : Fin 384) : EReal :=
  (∑ d : Fin 64, (D.V (ix4 0 0 d r) * (show EReal from D.vs)) * (D.dO (ix4 0 h d i) * D.dosr (ix2 0 i))) + -D.dlX h i
/-- A score's gradient. -/
def dsX (h : Fin 8) (r i : Fin 384) : EReal := D.pX mk h r i * D.dpX h r i
/-- A query gradient. -/
def dqX (h : Fin 8) (d : Fin 64) (i : Fin 384) : EReal := (∑ r : Fin 384, D.K (ix4 0 0 d r) * D.dsX mk h r i) * ((show EReal from D.ks) * c8)
/-- A key gradient. -/
def dkX (d : Fin 64) (r : Fin 384) : EReal :=
  (∑ h : Fin 8, ∑ i : Fin 384, D.Q (ix4 0 h d i) * (show EReal from D.qs h) * D.dsX mk h r i) * c8
/-- A value gradient. -/
def dvX (d : Fin 64) (r : Fin 384) : EReal :=
  ∑ h : Fin 8, ∑ i : Fin 384, D.dO (ix4 0 h d i) * D.dosr (ix2 0 i) * D.pX mk h r i
end Step

/-- Query tile `j` of `M` keys reads what the step read. -/
structure TileOK (D : Step Ideal) (mk : Fin 384 → Fin 384 → EReal) (j : Fin 3) (M : ℕ) (hM : M ≤ 384) (T : Tile Ideal M) : Prop where
  kT : ∀ (d : Fin 64) (r : Fin M), T.kT (ix2 d r) = D.K (ix4 0 0 d ⟨r.val, by omega⟩)
  k8 : ∀ (d : Fin 64) (r : Fin M), T.k8 (ix2 r d) = D.K (ix4 0 0 d ⟨r.val, by omega⟩)
  va : ∀ (d : Fin 64) (h : d.val < 80) (r : Fin M), T.va (ix2 r (⟨d.val, h⟩ : Fin 80)) = D.V (ix4 0 0 d ⟨r.val, by omega⟩) * (show EReal from D.vs)
  vb : ∀ (a : Fin 16) (h : 64 + a.val < 80) (r : Fin M), T.va (ix2 r (⟨64 + a.val, h⟩ : Fin 80)) = if a.val < 3 then (-1 : EReal) else 0
  dos : ∀ l : Fin 128, T.dos (ix2 0 l) = D.dosr (ix2 0 (qi j l))
  b : ∀ (r : Fin M) (l : Fin 128), T.b (ix2 r l) = mk ⟨r.val, by omega⟩ (qi j l)

section
variable (D : Step Ideal) (h : Fin 8) (j : Fin 3)
theorem hd_q (d : Fin 64) (l : Fin 128) : (D.hd h j).q (ix4 0 0 d l) = D.Q (ix4 0 h d (qi j l)) := by
  refine congrArg D.Q ?_; funext a; apply Fin.ext; fin_cases a <;> simp [qi]
theorem hd_dO (d : Fin 64) (l : Fin 128) : (D.hd h j).dO (ix4 0 0 d l) = D.dO (ix4 0 h d (qi j l)) := by
  refine congrArg D.dO ?_; funext a; apply Fin.ext; fin_cases a <;> simp [qi]
theorem hd_o (d : Fin 64) (l : Fin 128) : (D.hd h j).o (ix4 0 0 d l) = D.O (ix4 0 h d (qi j l)) := by
  refine congrArg D.O ?_; funext a; apply Fin.ext; fin_cases a <;> simp [qi]
theorem hd_lse (l : Fin 128) : (D.hd h j).lse (ix3 0 0 l) = D.L (ix3 0 h (qi j l)) := by
  refine congrArg D.L ?_; funext a; apply Fin.ext; fin_cases a <;> simp [qi]

variable {mk : Fin 384 → Fin 384 → EReal} {hM : M ≤ 384} {T : Tile Ideal M} (ok : TileOK D mk j M hM T)
include ok
theorem PF_ok (r : Fin M) (l : Fin 128) : PF M T.k8 D.ks T.b (D.hd h j) r l = D.pX mk h ⟨r.val, by omega⟩ (qi j l) := by
  unfold PF Step.pX
  rw [ok.b, hd_lse]
  simp only [ok.k8, hd_q]
  rfl

theorem DPF_ok (r : Fin M) (l : Fin 128) : DPF M T.va T.dos (D.hd h j) r l = D.dpX h ⟨r.val, by omega⟩ (qi j l) := by
  have hd : dlH T.dos (D.hd h j) l = D.dlX h (qi j l) := by
    unfold dlH Step.dlX; simp only [hd_dO, hd_o, ok.dos]
  unfold DPF Step.dpX
  rw [Fin.sum_univ_two_halves 64 16 rfl]
  simp only [hAug_lo, hAug_hi, ok.va, ok.vb, hd, hd_dO, ok.dos]
  refine congrArg (_ + ·) ?_
  rw [← neg_split (D.dlX h (qi j l))]
  simp [Fin.sum_univ_succ, add_assoc]
end

/-- A probability that the mask rules out is 0. -/
theorem exp2_bot : Ideal.exp2 ⊥ = 0 := by
  exact Ideal.exp2_bot

/-- The mask rules out the keys after a query. -/
def Causal (mk : Fin 384 → Fin 384 → EReal) : Prop := ∀ r i : Fin 384, i.val < r.val → mk r i = ⊥

section
variable {D : Step Ideal} {mk : Fin 384 → Fin 384 → EReal} (hmk : Causal mk)
include hmk
theorem pX_zero (h : Fin 8) {r i : Fin 384} (hri : i.val < r.val) : D.pX mk h r i = 0 := by
  unfold Step.pX; rw [hmk r i hri, EReal.add_bot, exp2_bot]
theorem dsX_zero (h : Fin 8) {r i : Fin 384} (hri : i.val < r.val) : D.dsX mk h r i = 0 := by
  unfold Step.dsX; rw [pX_zero hmk h hri, zero_mul]

/-- A sum over a tile's keys is the sum over all keys, the rest being ruled out. -/
theorem sum_keys (j : Fin 3) {M : ℕ} (hM : M ≤ 384) (hj : 128 * (j.val + 1) ≤ M) (h : Fin 8) (l : Fin 128) (f : Fin 384 → EReal) :
    ∑ r : Fin M, f ⟨r.val, by omega⟩ * D.dsX mk h ⟨r.val, by omega⟩ (qi j l) = ∑ r : Fin 384, f r * D.dsX mk h r (qi j l) := by
  rw [Fin.sum_univ_two_halves M (384 - M) (by omega) (fun r => f r * D.dsX mk h r (qi j l))]
  refine (add_zero _).symm.trans (congrArg (_ + ·) (Finset.sum_eq_zero fun k _ => ?_).symm)
  have hz : D.dsX mk h ⟨M + k.val, by omega⟩ (qi j l) = 0 := dsX_zero hmk h (by simp only [qi]; omega)
  rw [hz, mul_zero]
end

section
variable {D : Step Ideal} {mk : Fin 384 → Fin 384 → EReal} (hmk : Causal mk) (j : Fin 3) {hM : M ≤ 384} {T : Tile Ideal M}
  (ok : TileOK D mk j M hM T) (h0 h1 : Fin 8)
include hmk ok
theorem dq0_ok (hj : 128 * (j.val + 1) ≤ M) (d : Fin 64) (l : Fin 128) :
    uDQ0 M uf T.kT T.k8 T.va D.ks T.dos T.b (D.hd h0 j) (D.hd h1 j) (ix4 0 0 d l) = D.dqX mk h0 d (qi j l) := by
  rw [uDQ0_apply]; unfold Step.dqX
  rw [← sum_keys hmk j hM hj]
  simp only [PF_ok _ _ _ _ ok, DPF_ok _ _ _ _ ok, ok.kT]; rfl
theorem dq1_ok (hj : 128 * (j.val + 1) ≤ M) (d : Fin 64) (l : Fin 128) :
    uDQ1 M uf T.kT T.k8 T.va D.ks T.dos T.b (D.hd h0 j) (D.hd h1 j) (ix4 0 0 d l) = D.dqX mk h1 d (qi j l) := by
  rw [uDQ1_apply]; unfold Step.dqX
  rw [← sum_keys hmk j hM hj]
  simp only [PF_ok _ _ _ _ ok, DPF_ok _ _ _ _ ok, ok.kT]; rfl
end

/-- Query tile `j`'s part of a key gradient, from one head. -/
def Step.dkT (D : Step Ideal) (mk : Fin 384 → Fin 384 → EReal) (j : Fin 3) (h : Fin 8) (d : Fin 64) (r : Fin 384) : EReal :=
  ∑ l : Fin 128, D.Q (ix4 0 h d (qi j l)) * (show EReal from D.qs h) * D.dsX mk h r (qi j l)
/-- Query tile `j`'s part of a value gradient, from one head. -/
def Step.dvT (D : Step Ideal) (mk : Fin 384 → Fin 384 → EReal) (j : Fin 3) (h : Fin 8) (d : Fin 64) (r : Fin 384) : EReal :=
  ∑ l : Fin 128, D.dO (ix4 0 h d (qi j l)) * D.dosr (ix2 0 (qi j l)) * D.pX mk h r (qi j l)

section
variable {D : Step Ideal} {mk : Fin 384 → Fin 384 → EReal} (j : Fin 3) {hM : M ≤ 384} {T : Tile Ideal M}
  (ok : TileOK D mk j M hM T) (h0 h1 : Fin 8)
include ok
theorem dk_ok (d : Fin 64) (r : Fin M) : uDK M uf T.k8 T.va D.ks T.dos T.b (D.hd h0 j) (D.hd h1 j) (ix2 d r)
    = D.dkT mk j h0 d ⟨r.val, by omega⟩ + D.dkT mk j h1 d ⟨r.val, by omega⟩ := by
  rw [uDK_apply]; unfold Step.dkT
  simp only [PF_ok _ _ _ _ ok, DPF_ok _ _ _ _ ok, hd_q]; rfl
theorem dv_ok (d : Fin 64) (r : Fin M) : uDV M uf T.k8 D.ks T.dos T.b (D.hd h0 j) (D.hd h1 j) (ix2 d r)
    = D.dvT mk j h0 d ⟨r.val, by omega⟩ + D.dvT mk j h1 d ⟨r.val, by omega⟩ := by
  rw [uDV_apply]; unfold Step.dvT
  simp only [PF_ok _ _ _ _ ok, hd_dO, ok.dos]
end

section
variable {D : Step Ideal} {mk : Fin 384 → Fin 384 → EReal}
  (hb0 : ∀ (r : Fin 128) (l : Fin 128), D.b0 (ix3 0 r l) = mk ⟨r.val, Nat.lt_of_lt_of_le r.isLt le128⟩ (qi 0 l))
  (hb1 : ∀ (r : Fin 256) (l : Fin 128), D.b1 (ix3 0 r l) = mk ⟨r.val, Nat.lt_of_lt_of_le r.isLt le256⟩ (qi 1 l))
  (hb2 : ∀ (r : Fin 384) (l : Fin 128), D.b2 (ix3 0 r l) = mk r (qi 2 l))

theorem vb_sel (a : Fin 16) : Scalar.select (IntOp.cmpi CmpIPredicate.slt (BitVec.ofNat 32 a.val) 3#32) (Ideal.ofBits FTy.f32 0xBF800000#32) 0
    = if a.val < 3 then (-1 : EReal) else 0 := by
  rw [show Ideal.ofBits FTy.f32 0xBF800000#32 = -1 from IdealRules.sign_bit.ideal_negOnePat .f32]
  fin_cases a <;> rfl

include hb0 in
theorem ok0 : TileOK D mk 0 128 (by omega) D.t0 := by
  constructor <;> intros <;> unfold Step.t0
  · pointwise [k0_pay10, k0_pay8]
  · pointwise [k0_pay9, k0_pay8]
  · pointwise [k0_pay11, k0_pay8]
  · pointwise [k0_pay11, k0_pay8]; exact vb_sel _
  · pointwise [qi]
  · pointwise; exact hb0 _ _

include hb1 in
theorem ok1 : TileOK D mk 1 256 (by omega) D.t1 := by
  constructor <;> intros <;> unfold Step.t1
  · pointwise [k0_pay10, k0_pay8]
  · pointwise [k0_pay9, k0_pay8]
  · pointwise [k0_pay11, k0_pay8]
  · pointwise [k0_pay11, k0_pay8]; exact vb_sel _
  · pointwise [qi]
  · pointwise; exact hb1 _ _

include hb2 in
theorem ok2 : TileOK D mk 2 384 (by omega) D.t2 := by
  constructor <;> intros <;> unfold Step.t2
  · pointwise [k0_pay10, k0_pay8]
  · pointwise [k0_pay9, k0_pay8]
  · pointwise [k0_pay11, k0_pay8]
  · pointwise [k0_pay11, k0_pay8]; exact vb_sel _
  · pointwise [qi]
  · pointwise; exact hb2 _ _

variable (hmk : Causal mk)

include hb0 hmk in
theorem dq00_eq (h0 h1 : Fin 8) (d : Fin 64) (l : Fin 128) : D.dq00 h0 h1 (ix4 0 0 d l) = D.dqX mk h0 d (qi 0 l) :=
  dq0_ok _ _ hmk 0 (ok0 hb0) h0 h1 (by decide) d l

include hb0 hmk in
theorem dq01_eq (h0 h1 : Fin 8) (d : Fin 64) (l : Fin 128) : D.dq01 h0 h1 (ix4 0 0 d l) = D.dqX mk h1 d (qi 0 l) :=
  dq1_ok _ _ hmk 0 (ok0 hb0) h0 h1 (by decide) d l

include hb1 hmk in
theorem dq10_eq (h0 h1 : Fin 8) (d : Fin 64) (l : Fin 128) : D.dq10 h0 h1 (ix4 0 0 d l) = D.dqX mk h0 d (qi 1 l) :=
  dq0_ok _ _ hmk 1 (ok1 hb1) h0 h1 (by decide) d l

include hb1 hmk in
theorem dq11_eq (h0 h1 : Fin 8) (d : Fin 64) (l : Fin 128) : D.dq11 h0 h1 (ix4 0 0 d l) = D.dqX mk h1 d (qi 1 l) :=
  dq1_ok _ _ hmk 1 (ok1 hb1) h0 h1 (by decide) d l

include hb2 hmk in
theorem dq20_eq (h0 h1 : Fin 8) (d : Fin 64) (l : Fin 128) : D.dq20 h0 h1 (ix4 0 0 d l) = D.dqX mk h0 d (qi 2 l) :=
  dq0_ok _ _ hmk 2 (ok2 hb2) h0 h1 (by decide) d l

include hb2 hmk in
theorem dq21_eq (h0 h1 : Fin 8) (d : Fin 64) (l : Fin 128) : D.dq21 h0 h1 (ix4 0 0 d l) = D.dqX mk h1 d (qi 2 l) :=
  dq1_ok _ _ hmk 2 (ok2 hb2) h0 h1 (by decide) d l

/-- The whole sum of a gradient as the sum over the three query tiles. -/
theorem sum3 (f : Fin 384 → EReal) : ∑ i : Fin 384, f i = (∑ l : Fin 128, f (qi 0 l)) + (∑ l : Fin 128, f (qi 1 l)) + ∑ l : Fin 128, f (qi 2 l) := by
  rw [Fin.sum_univ_tiles 3 128 rfl f, Fin.sum_univ_three]
  simp only [qi, Nat.mul_comm 128]

theorem dkT_zero (hmk : Causal mk) (j : Fin 3) (h : Fin 8) (d : Fin 64) (r : Fin 384) (hr : 128 * (j.val + 1) ≤ r.val) : D.dkT mk j h d r = 0 :=
  Finset.sum_eq_zero fun l _ => by rw [dsX_zero hmk h (by simp only [qi]; omega), mul_zero]
theorem dvT_zero (hmk : Causal mk) (j : Fin 3) (h : Fin 8) (d : Fin 64) (r : Fin 384) (hr : 128 * (j.val + 1) ≤ r.val) : D.dvT mk j h d r = 0 :=
  Finset.sum_eq_zero fun l _ => by rw [pX_zero hmk h (by simp only [qi]; omega), mul_zero]

theorem dkX_eq (d : Fin 64) (r : Fin 384) : D.dkX mk d r = (∑ h : Fin 8, (D.dkT mk 0 h d r + D.dkT mk 1 h d r + D.dkT mk 2 h d r)) * c8 := by
  unfold Step.dkX; simp only [sum3, Step.dkT]
theorem dvX_eq (d : Fin 64) (r : Fin 384) : D.dvX mk d r = ∑ h : Fin 8, (D.dvT mk 0 h d r + D.dvT mk 1 h d r + D.dvT mk 2 h d r) := by
  unfold Step.dvX; simp only [sum3, Step.dvT]

/-- The parts of heads two by two, added up, are the sum over the heads. -/
theorem sum4_pairs (f : Fin 8 → EReal) : f 0 + f 1 + (f 2 + f 3) + (f 4 + f 5) + (f 6 + f 7) = ∑ h : Fin 8, f h := by
  rw [Fin.sum_univ_eight]; ac_rfl
theorem add4_pairs (a : EReal) (f : Fin 8 → EReal) : a + (f 0 + f 1) + (f 2 + f 3) + (f 4 + f 5) + (f 6 + f 7) = a + ∑ h : Fin 8, f h := by
  rw [Fin.sum_univ_eight]; ac_rfl

include hb0 in
theorem dk0_eq (h0 h1 : Fin 8) (d : Fin 64) (r : Fin 128) : D.dk0 h0 h1 (ix2 d r)
    = D.dkT mk 0 h0 d ⟨r.val, by omega⟩ + D.dkT mk 0 h1 d ⟨r.val, by omega⟩ := dk_ok _ _ 0 (ok0 hb0) h0 h1 d r

include hb0 in
theorem dv0_eq (h0 h1 : Fin 8) (d : Fin 64) (r : Fin 128) : D.dv0 h0 h1 (ix2 d r)
    = D.dvT mk 0 h0 d ⟨r.val, by omega⟩ + D.dvT mk 0 h1 d ⟨r.val, by omega⟩ := dv_ok _ _ 0 (ok0 hb0) h0 h1 d r

include hb1 in
theorem dk1_eq (h0 h1 : Fin 8) (d : Fin 64) (r : Fin 256) : D.dk1 h0 h1 (ix2 d r)
    = D.dkT mk 1 h0 d ⟨r.val, by omega⟩ + D.dkT mk 1 h1 d ⟨r.val, by omega⟩ := dk_ok _ _ 1 (ok1 hb1) h0 h1 d r

include hb1 in
theorem dv1_eq (h0 h1 : Fin 8) (d : Fin 64) (r : Fin 256) : D.dv1 h0 h1 (ix2 d r)
    = D.dvT mk 1 h0 d ⟨r.val, by omega⟩ + D.dvT mk 1 h1 d ⟨r.val, by omega⟩ := dv_ok _ _ 1 (ok1 hb1) h0 h1 d r

include hb2 in
theorem dk2_eq (h0 h1 : Fin 8) (d : Fin 64) (r : Fin 384) : D.dk2 h0 h1 (ix2 d r)
    = D.dkT mk 2 h0 d ⟨r.val, by omega⟩ + D.dkT mk 2 h1 d ⟨r.val, by omega⟩ := dk_ok _ _ 2 (ok2 hb2) h0 h1 d r

include hb2 in
theorem dv2_eq (h0 h1 : Fin 8) (d : Fin 64) (r : Fin 384) : D.dv2 h0 h1 (ix2 d r)
    = D.dvT mk 2 h0 d ⟨r.val, by omega⟩ + D.dvT mk 2 h1 d ⟨r.val, by omega⟩ := dv_ok _ _ 2 (ok2 hb2) h0 h1 d r

theorem qi0 (l : Fin 128) (h : l.val < 384) : (⟨l.val, h⟩ : Fin 384) = qi 0 l := Fin.ext (by simp [qi])
theorem qi1 (l : Fin 128) (h : 128 + l.val < 384) : (⟨128 + l.val, h⟩ : Fin 384) = qi 1 l := Fin.ext (by simp [qi])
theorem qi2 (l : Fin 128) (h : 256 + l.val < 384) : (⟨256 + l.val, h⟩ : Fin 384) = qi 2 l := Fin.ext (by simp [qi])

include hb0 hb1 hb2 hmk in
theorem k0_eq (d : Fin 64) (l : Fin 128) : Step.stK (Step.acc0 D.dk0 D.dk1 D.dk2) (ix4 0 0 d l) = D.dkX mk d (qi 0 l) := by
  rw [dkX_eq]
  unfold Step.stK Step.acc0
  pointwise [Step.sum4, Step.add4, Step.sl10, Step.sl11, Step.sl20, Step.sl21, Step.sl22, dk0_eq hb0, dk1_eq hb1, dk2_eq hb2]
  refine Ideal.mul_congr ?_ rfl
  simp only [qi0, qi1, qi2, Fin.sum_univ_eight]
  abel

include hb0 hb1 hb2 hmk in
theorem v0_eq (d : Fin 64) (l : Fin 128) : Step.stV (Step.acc0 D.dv0 D.dv1 D.dv2) (ix4 0 0 d l) = D.dvX mk d (qi 0 l) := by
  rw [dvX_eq]
  unfold Step.stV Step.acc0
  pointwise [Step.sum4, Step.add4, Step.sl10, Step.sl11, Step.sl20, Step.sl21, Step.sl22, dv0_eq hb0, dv1_eq hb1, dv2_eq hb2]
  simp only [qi0, qi1, qi2, Fin.sum_univ_eight]
  abel

include hb1 hb2 hmk in
theorem k1_eq (d : Fin 64) (l : Fin 128) : Step.stK (Step.acc1 D.dk1 D.dk2) (ix4 0 0 d l) = D.dkX mk d (qi 1 l) := by
  rw [dkX_eq]
  simp only [zero_add, (fun h => dkT_zero hmk 0 h d (qi 1 l) (by simp only [qi]; simp) : ∀ h, D.dkT mk 0 h d (qi 1 l) = 0)]
  unfold Step.stK Step.acc1
  pointwise [Step.sum4, Step.add4, Step.sl10, Step.sl11, Step.sl20, Step.sl21, Step.sl22, dk1_eq hb1, dk2_eq hb2]
  refine Ideal.mul_congr ?_ rfl
  simp only [qi0, qi1, qi2, Fin.sum_univ_eight]
  abel

include hb1 hb2 hmk in
theorem v1_eq (d : Fin 64) (l : Fin 128) : Step.stV (Step.acc1 D.dv1 D.dv2) (ix4 0 0 d l) = D.dvX mk d (qi 1 l) := by
  rw [dvX_eq]
  simp only [zero_add, (fun h => dvT_zero hmk 0 h d (qi 1 l) (by simp only [qi]; simp) : ∀ h, D.dvT mk 0 h d (qi 1 l) = 0)]
  unfold Step.stV Step.acc1
  pointwise [Step.sum4, Step.add4, Step.sl10, Step.sl11, Step.sl20, Step.sl21, Step.sl22, dv1_eq hb1, dv2_eq hb2]
  simp only [qi0, qi1, qi2, Fin.sum_univ_eight]
  abel

include hb2 hmk in
theorem k2_eq (d : Fin 64) (l : Fin 128) : Step.stK (Step.acc2 D.dk2) (ix4 0 0 d l) = D.dkX mk d (qi 2 l) := by
  rw [dkX_eq]
  simp only [zero_add, (fun h => dkT_zero hmk 0 h d (qi 2 l) (by simp only [qi]; simp; omega) : ∀ h, D.dkT mk 0 h d (qi 2 l) = 0), (fun h => dkT_zero hmk 1 h d (qi 2 l) (by simp only [qi]; simp) : ∀ h, D.dkT mk 1 h d (qi 2 l) = 0)]
  unfold Step.stK Step.acc2
  pointwise [Step.sum4, Step.add4, Step.sl10, Step.sl11, Step.sl20, Step.sl21, Step.sl22, dk2_eq hb2]
  refine Ideal.mul_congr ?_ rfl
  simp only [qi0, qi1, qi2, Fin.sum_univ_eight]
  abel

include hb2 hmk in
theorem v2_eq (d : Fin 64) (l : Fin 128) : Step.stV (Step.acc2 D.dv2) (ix4 0 0 d l) = D.dvX mk d (qi 2 l) := by
  rw [dvX_eq]
  simp only [zero_add, (fun h => dvT_zero hmk 0 h d (qi 2 l) (by simp only [qi]; simp; omega) : ∀ h, D.dvT mk 0 h d (qi 2 l) = 0), (fun h => dvT_zero hmk 1 h d (qi 2 l) (by simp only [qi]; simp) : ∀ h, D.dvT mk 1 h d (qi 2 l) = 0)]
  unfold Step.stV Step.acc2
  pointwise [Step.sum4, Step.add4, Step.sl10, Step.sl11, Step.sl20, Step.sl21, Step.sl22, dv2_eq hb2]
  simp only [qi0, qi1, qi2, Fin.sum_univ_eight]
  abel
end
end Cert.KernelIdeal.Value
end
end
-- ==== Proof.Mask.lean ====
module
public import proofs.«01_k».proof.Proof.Base
public import proofs.«01_k».proof.Proof.Spec
public import proofs.«01_k».proof.Proof.Gen.KernelIdeal.Frame
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-- The mask between key `r` and query `i` of batch row `b`: 0 where the query sees the key, otherwise `-∞`. -/
def mkOf (seg : Fin 384 → BitVec 32) (r i : Fin 384) : EReal := if seg r = seg i ∧ r.val ≤ i.val then 0 else ⊥

theorem causal_mkOf (seg : Fin 384 → BitVec 32) : Causal (mkOf seg) := fun r i h => if_neg fun hh => by omega

/-- The row of segment ids a grid step reads. -/
def segRow (c : Dev nD) (t : Fin cfg0.N) (i : Fin 384) : BitVec 32 := iblk m c 4 t (ix2 (grid0.coords t 0) i)

theorem pick3 {α : Type} (b : Fin 3) (f : Fin 3 → α) :
    Scalar.select (Scalar.cmpi .eq (BitVec.ofNat 32 b.val) 2#32) (f 2) (Scalar.select (Scalar.cmpi .eq (BitVec.ofNat 32 b.val) 1#32) (f 1) (f 0)) = f b := by
  fin_cases b <;> rfl

theorem sitofp_inj (a b : BitVec 32) : (FloatOps.sitofp (F := Ideal) .f32 a = FloatOps.sitofp .f32 b) ↔ a = b := by
  constructor
  · intro h
    have h' : ((a.toInt : ℝ) : EReal) = ((b.toInt : ℝ) : EReal) := h
    exact BitVec.eq_of_toInt_eq (by exact_mod_cast h')
  · rintro rfl; rfl

theorem ofBits_ninf : Ideal.ofBits FTy.f32 0xFF800000#32 = ⊥ := by simp [Ideal.ofBits, Ideal.ieee]

theorem sle_small (a b : ℕ) (ha : a < 1000) (hb : b < 1000) : (BitVec.ofNat 32 a).sle (BitVec.ofNat 32 b) = decide (a ≤ b) := by
  have e : ∀ n < 1000, (BitVec.ofNat 32 n).toInt = n := fun n hn => by
    rw [BitVec.toInt_eq_toNat_of_lt (by rw [BitVec.toNat_ofNat]; omega), BitVec.toNat_ofNat]; omega
  rw [BitVec.sle_eq_decide, e a ha, e b hb]; simp

theorem mask_piece (f : Fin 3 → Fin 384 → BitVec 32) (b : Fin 3) (r i : Fin 384) (l : Fin 128) (j : ℕ) (hj : j < 384) (hi : i.val = l.val + j) :
    Scalar.select (IntOp.andi
        (BitVec.ofBool (decide
            (FloatOps.sitofp (F := Ideal) FTy.f32 (Scalar.select (Scalar.cmpi CmpIPredicate.eq (BitVec.ofNat 32 b.val) 2#32) (f 2 r)
                  (Scalar.select (Scalar.cmpi CmpIPredicate.eq (BitVec.ofNat 32 b.val) 1#32) (f 1 r) (f 0 r))) =
              FloatOps.sitofp FTy.f32 (Scalar.select (Scalar.cmpi CmpIPredicate.eq (BitVec.ofNat 32 b.val) 2#32) (f 2 i)
                  (Scalar.select (Scalar.cmpi CmpIPredicate.eq (BitVec.ofNat 32 b.val) 1#32) (f 1 i) (f 0 i))))))
        (IntOp.cmpi CmpIPredicate.sle (BitVec.ofNat 32 r.val) (IntOp.addi (BitVec.ofNat 32 l.val) (BitVec.ofNat 32 j))))
      0 (Ideal.ofBits FTy.f32 0xFF800000#32) = mkOf (f b) r i := by
  have e1 := pick3 b (fun k => f k r)
  have e2 := pick3 b (fun k => f k i)
  have e3 : IntOp.cmpi CmpIPredicate.sle (BitVec.ofNat 32 r.val) (IntOp.addi (BitVec.ofNat 32 l.val) (BitVec.ofNat 32 j)) = BitVec.ofBool (decide (r.val ≤ i.val)) := by
    rw [show IntOp.addi (BitVec.ofNat 32 l.val) (BitVec.ofNat 32 j) = BitVec.ofNat 32 i.val by rw [hi]; exact (BitVec.ofNat_add _ _).symm]
    exact congrArg BitVec.ofBool (sle_small _ _ (by omega) (by omega))
  simp only [e1, e2, e3, ofBits_ninf, sitofp_inj]
  unfold mkOf
  by_cases h1 : f b r = f b i <;> by_cases h2 : r.val ≤ i.val <;> simp [h1, h2, Scalar.select, IntOp.andi]

set_option maxHeartbeats 400000
theorem scrA (c : Dev nD) (t : Fin cfg0.N) (h : t.val % 4 = 0) (y : S3x384x128.Idx) : (outsAt0 m c t.val t.isLt).2.2.2 y
    = mkOf (segRow m c t) (y 1) (qi (y 0) (y 2)) := by
  rw [outsAt0_A m c t h]; frame_out
  canon_tiles x h
  · idx_vars x
    pointwise [k0_pay7, k0_pay6]
    obtain rfl : x1 = y 1 := Fin.ext h1.symm
    obtain rfl : x2 = y 2 := Fin.ext h2.symm
    have e : (⟨256 + (y 2).val, by omega⟩ : Fin 384) = qi (y 0) (y 2) := Fin.ext (by simp only [qi]; omega)
    simp only [e]
    exact mask_piece (fun k i => iblk m c 4 t (ix2 k i)) (grid0.coords t 0) (y 1) (qi (y 0) (y 2)) (y 2) 256 (by omega) (by simp only [qi]; omega)
  · idx_vars x
    pointwise [k0_pay7, k0_pay6]
    obtain rfl : x1 = y 1 := Fin.ext h1.symm
    obtain rfl : x2 = y 2 := Fin.ext h2.symm
    have e : (⟨128 + (y 2).val, by omega⟩ : Fin 384) = qi (y 0) (y 2) := Fin.ext (by simp only [qi]; omega)
    simp only [e]
    exact mask_piece (fun k i => iblk m c 4 t (ix2 k i)) (grid0.coords t 0) (y 1) (qi (y 0) (y 2)) (y 2) 128 (by omega) (by simp only [qi]; omega)
  · idx_vars x
    pointwise [k0_pay7, k0_pay6]
    obtain rfl : x1 = y 1 := Fin.ext h1.symm
    obtain rfl : x2 = y 2 := Fin.ext h2.symm
    have e : (⟨(y 2).val, by omega⟩ : Fin 384) = qi (y 0) (y 2) := Fin.ext (by simp only [qi]; omega)
    simp only [e]
    exact mask_piece (fun k i => iblk m c 4 t (ix2 k i)) (grid0.coords t 0) (y 1) (qi (y 0) (y 2)) (y 2) 0 (by omega) (by simp only [qi]; omega)

end Cert.KernelIdeal.Value
end
end
-- ==== Proof.Blocks.lean ====
module
public import proofs.«01_k».proof.Proof.Mask
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Attn
variable (m : (ℓ : Loc nD τ sig) → Buf (Elt Ideal) ℓ)

theorem idx : ∀ t : Fin cfg0.N, win0_0.index t = ![0] ∧ win0_1.index t = ![0] ∧ win0_2.index t = ![0] ∧ win0_3.index t = ![0, 0] ∧ win0_4.index t = ![0, 0]
    ∧ win0_5.index t = ![t.val / 4, t.val % 4, 0, 0] ∧ win0_6.index t = ![t.val / 4, t.val % 4, 0, 0] ∧ win0_7.index t = ![t.val / 4, t.val % 4, 0, 0]
    ∧ win0_8.index t = ![t.val / 4, t.val % 4, 0, 0] ∧ win0_9.index t = ![t.val / 4, t.val % 4, 0] ∧ win0_10.index t = ![t.val / 4, t.val % 4, 0, 0]
    ∧ win0_11.index t = ![t.val / 4, t.val % 4, 0, 0] ∧ win0_12.index t = ![t.val / 4, t.val % 4, 0, 0] ∧ win0_13.index t = ![t.val / 4, t.val % 4, 0, 0] :=
  (by decide +kernel : ∀ t : Fin grid0.N, _)

theorem coords0 : ∀ t : Fin cfg0.N, (grid0.coords t 0).val = t.val / 4 := (by decide +kernel : ∀ t : Fin grid0.N, _)
theorem coords1 : ∀ t : Fin cfg0.N, (grid0.coords t 1).val = t.val % 4 := (by decide +kernel : ∀ t : Fin grid0.N, _)
theorem tlt (t : Fin cfg0.N) : t.val < 12 := lt_of_lt_of_eq t.isLt N_0

/-- The batch row and the key/value head of a grid point. -/
def bOf (t : Fin cfg0.N) : Fin 3 := ⟨t.val / 4, by have := tlt t; omega⟩
def kvOf (t : Fin cfg0.N) : Fin 4 := ⟨t.val % 4, by omega⟩

section
variable (c : Dev nD) (t : Fin cfg0.N)
theorem blk0 (h : Fin 32) : iblk m c 0 t (ix1 h) = m (c.tc.loc main_arg1) (ix1 h) := by
  blk_ext [iblk, V, idx t]
theorem blk1 (h : Fin 4) : iblk m c 1 t (ix1 h) = m (c.tc.loc main_arg3) (ix1 h) := by
  blk_ext [iblk, V, idx t]
theorem blk2 (h : Fin 4) : iblk m c 2 t (ix1 h) = m (c.tc.loc main_arg5) (ix1 h) := by
  blk_ext [iblk, V, idx t]
theorem blk4 (b : Fin 3) (i : Fin 384) : iblk m c 4 t (ix2 b i) = m (c.tc.loc main_arg10) (ix2 b i) := by
  blk_ext [iblk, V, idx t]
theorem blk3 (b : Fin 3) (i : Fin 384) : iblk m c 3 t (ix2 b i) = m (c.tc.loc main_arg9) (ix2 b i) := by
  blk_ext [iblk, V, idx t]
theorem blk9 (h : Fin 8) (i : Fin 384) : iblk m c 9 t (ix3 0 h i) = m (c.tc.loc main_arg7) (ix3 (bOf t) (hOf (kvOf t) h) i) := by
  blk_ext [iblk, V, idx t, bOf, kvOf, hOf]
theorem V_v0 : V m c main_v0 = transpose S3x32x64x384 [0, 2, 3, 1] (m (c.tc.loc main_arg0)) transposes_S3x384x32x64_S3x32x64x384_0_2_3_1 := by
  show StableHlo.after hostOps0 (fun b => m (c, b)) (Proc.devRef .tc main_v0) = _
  entry_read
  try rfl
theorem V_v1 : V m c main_v1 = transpose S3x4x64x384 [0, 2, 3, 1] (m (c.tc.loc main_arg2)) transposes_S3x384x4x64_S3x4x64x384_0_2_3_1 := by
  show StableHlo.after hostOps0 (fun b => m (c, b)) (Proc.devRef .tc main_v1) = _
  entry_read
  try rfl
theorem V_v2 : V m c main_v2 = transpose S3x4x64x384 [0, 2, 3, 1] (m (c.tc.loc main_arg4)) transposes_S3x384x4x64_S3x4x64x384_0_2_3_1 := by
  show StableHlo.after hostOps0 (fun b => m (c, b)) (Proc.devRef .tc main_v2) = _
  entry_read
  try rfl
theorem V_v3 : V m c main_v3 = transpose S3x32x64x384 [0, 2, 3, 1] (m (c.tc.loc main_arg6)) transposes_S3x384x32x64_S3x32x64x384_0_2_3_1 := by
  show StableHlo.after hostOps0 (fun b => m (c, b)) (Proc.devRef .tc main_v3) = _
  entry_read
  try rfl
theorem V_v4 : V m c main_v4 = transpose S3x32x64x384 [0, 2, 3, 1] (m (c.tc.loc main_arg8)) transposes_S3x384x32x64_S3x32x64x384_0_2_3_1 := by
  show StableHlo.after hostOps0 (fun b => m (c, b)) (Proc.devRef .tc main_v4) = _
  entry_read
  try rfl
theorem blk5 (h : Fin 8) (d : Fin 64) (i : Fin 384) :
    iblk m c 5 t (ix4 0 h d i) = m (c.tc.loc main_arg0) (ix4 (bOf t) i (hOf (kvOf t) h) d) := by
  blk_simp [iblk]
  have e : ((cfg0.win 5).blk t).view.emb (ix4 0 h d i) = ix4 (bOf t) (hOf (kvOf t) h) d i := by blk_ext [idx t, bOf, kvOf, hOf]
  refine (congrFun (V_v0 m c) _).trans ?_
  refine (congrArg _ e).trans ?_
  pointwise
theorem blk6 (d : Fin 64) (i : Fin 384) :
    iblk m c 6 t (ix4 0 0 d i) = m (c.tc.loc main_arg2) (ix4 (bOf t) i (kvOf t) d) := by
  blk_simp [iblk]
  have e : ((cfg0.win 6).blk t).view.emb (ix4 0 0 d i) = ix4 (bOf t) (kvOf t) d i := by blk_ext [idx t, bOf, kvOf]
  refine (congrFun (V_v1 m c) _).trans ?_
  refine (congrArg _ e).trans ?_
  pointwise
theorem blk7 (d : Fin 64) (i : Fin 384) :
    iblk m c 7 t (ix4 0 0 d i) = m (c.tc.loc main_arg4) (ix4 (bOf t) i (kvOf t) d) := by
  blk_simp [iblk]
  have e : ((cfg0.win 7).blk t).view.emb (ix4 0 0 d i) = ix4 (bOf t) (kvOf t) d i := by blk_ext [idx t, bOf, kvOf]
  refine (congrFun (V_v2 m c) _).trans ?_
  refine (congrArg _ e).trans ?_
  pointwise
theorem blk8 (h : Fin 8) (d : Fin 64) (i : Fin 384) :
    iblk m c 8 t (ix4 0 h d i) = m (c.tc.loc main_arg6) (ix4 (bOf t) i (hOf (kvOf t) h) d) := by
  blk_simp [iblk]
  have e : ((cfg0.win 8).blk t).view.emb (ix4 0 h d i) = ix4 (bOf t) (hOf (kvOf t) h) d i := by blk_ext [idx t, bOf, kvOf, hOf]
  refine (congrFun (V_v3 m c) _).trans ?_
  refine (congrArg _ e).trans ?_
  pointwise
theorem blk10 (h : Fin 8) (d : Fin 64) (i : Fin 384) :
    iblk m c 10 t (ix4 0 h d i) = m (c.tc.loc main_arg8) (ix4 (bOf t) i (hOf (kvOf t) h) d) := by
  blk_simp [iblk]
  have e : ((cfg0.win 10).blk t).view.emb (ix4 0 h d i) = ix4 (bOf t) (hOf (kvOf t) h) d i := by blk_ext [idx t, bOf, kvOf, hOf]
  refine (congrFun (V_v4 m c) _).trans ?_
  refine (congrArg _ e).trans ?_
  pointwise
end
end Cert.KernelIdeal.Value
end
end
-- ==== Proof.StepVal.lean ====
module
public import proofs.«01_k».proof.Proof.Blocks
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Attn
variable (m : (ℓ : Loc nD τ sig) → Buf (Elt Ideal) ℓ)

/-- The program's arguments, entry by entry. -/
def argsOf (c : Dev nD) : Args where
  q b i h d := m (c.tc.loc main_arg0) (ix4 b i h d)
  qs h := m (c.tc.loc main_arg1) (ix1 h)
  k b i h d := m (c.tc.loc main_arg2) (ix4 b i h d)
  ks h := m (c.tc.loc main_arg3) (ix1 h)
  v b i h d := m (c.tc.loc main_arg4) (ix4 b i h d)
  vs h := m (c.tc.loc main_arg5) (ix1 h)
  o b i h d := m (c.tc.loc main_arg6) (ix4 b i h d)
  lse b h i := m (c.tc.loc main_arg7) (ix3 b h i)
  dO b i h d := m (c.tc.loc main_arg8) (ix4 b i h d)
  dos b i := m (c.tc.loc main_arg9) (ix2 b i)
  seg b i := m (c.tc.loc main_arg10) (ix2 b i)

theorem off1 : ∀ t : Fin cfg0.N, k0_off1 (grid0.coords t) 0 = t.val % 4 := (by decide +kernel : ∀ t : Fin grid0.N, _)
theorem off2 : ∀ (t : Fin cfg0.N) (h : Fin 8), k0_off2 (grid0.coords t) (BitVec.ofNat 32 h.val) 0 = 8 * (t.val % 4) + h.val :=
  (by decide +kernel : ∀ (t : Fin grid0.N) (h : Fin 8), _)

variable (c : Dev nD) (t : Fin cfg0.N) (X : Vec Ideal S3x384x128 .f32)

theorem coords_b : grid0.coords t 0 = bOf t := Fin.ext (coords0 t)

theorem sx_ks : (stepX m c t X).ks = (argsOf m c).ks (kvOf t) := by
  refine (congrArg (iblk m c 1 t) (?_ : _ = ix1 (kvOf t))).trans (blk1 m c t _)
  funext a; apply Fin.ext; fin_cases a
  rw [Rect.idx_unit_val]; simp [kvOf, off1 t]
theorem sx_vs : (stepX m c t X).vs = (argsOf m c).vs (kvOf t) := by
  refine (congrArg (iblk m c 2 t) (?_ : _ = ix1 (kvOf t))).trans (blk2 m c t _)
  funext a; apply Fin.ext; fin_cases a
  rw [Rect.idx_unit_val]; simp [kvOf, off1 t]
theorem sx_qs (h : Fin 8) : (stepX m c t X).qs h = (argsOf m c).qs (hOf (kvOf t) h) := by
  refine (congrArg (iblk m c 0 t) (?_ : _ = ix1 (hOf (kvOf t) h))).trans (blk0 m c t _)
  funext a; apply Fin.ext; fin_cases a
  rw [Rect.idx_unit_val]; simp [kvOf, hOf, off2 t h]
theorem sx_dosr (i : Fin 384) : (stepX m c t X).dosr (ix2 0 i) = (argsOf m c).dos (bOf t) i := by
  show k0_pay12 _ _ _ _ _ = _
  pointwise [k0_pay12]
  exact (pick3 (grid0.coords t 0) (fun b => iblk m c 3 t (ix2 b i))).trans
    ((blk3 m c t (grid0.coords t 0) i).trans (congrArg (fun b : Fin 3 => m (c.tc.loc main_arg9) (ix2 b i)) (coords_b t)))

variable (hX : ∀ y, X y = mkOf (segRow m c t) (y 1) (qi (y 0) (y 2)))

theorem seg_row : segRow m c t = (argsOf m c).seg (bOf t) := by
  funext i
  exact (blk4 m c t (grid0.coords t 0) i).trans (congrArg (fun b : Fin 3 => m (c.tc.loc main_arg10) (ix2 b i)) (coords_b t))

include hX in
theorem sx_b0 (r : Fin 128) (l : Fin 128) : (stepX m c t X).b0 (ix3 0 r l) = mkOf (segRow m c t) ⟨r.val, Nat.lt_of_lt_of_le r.isLt le128⟩ (qi 0 l) := by
  refine (congrArg X (?_ : _ = ix3 0 ⟨r.val, by omega⟩ l)).trans ((hX _).trans ?_)
  · funext a; apply Fin.ext; fin_cases a <;> simp
  · rfl
include hX in
theorem sx_b1 (r : Fin 256) (l : Fin 128) : (stepX m c t X).b1 (ix3 0 r l) = mkOf (segRow m c t) ⟨r.val, Nat.lt_of_lt_of_le r.isLt le256⟩ (qi 1 l) := by
  refine (congrArg X (?_ : _ = ix3 1 ⟨r.val, by omega⟩ l)).trans ((hX _).trans ?_)
  · funext a; apply Fin.ext; fin_cases a <;> simp
  · rfl
include hX in
theorem sx_b2 (r : Fin 384) (l : Fin 128) : (stepX m c t X).b2 (ix3 0 r l) = mkOf (segRow m c t) r (qi 2 l) := by
  refine (congrArg X (?_ : _ = ix3 2 r l)).trans ((hX _).trans ?_)
  · funext a; apply Fin.ext; fin_cases a <;> simp
  · rfl

theorem sx_p (h : Fin 8) (r i : Fin 384) : (stepX m c t X).pX (mkOf (segRow m c t)) h r i = (argsOf m c).kp (bOf t) (kvOf t) h r i := by
  unfold Step.pX Args.kp Args.s
  rw [sx_ks, sx_qs]
  have e1 : ∀ d, (stepX m c t X).K (ix4 0 0 d r) = (argsOf m c).k (bOf t) r (kvOf t) d := fun d => blk6 m c t d r
  have e2 : ∀ d, (stepX m c t X).Q (ix4 0 h d i) = (argsOf m c).q (bOf t) i (hOf (kvOf t) h) d := fun d => blk5 m c t h d i
  have e3 : (stepX m c t X).L (ix3 0 h i) = (argsOf m c).lse (bOf t) (hOf (kvOf t) h) i := blk9 m c t h i
  rw [e3, seg_row]
  simp only [e1, e2]
  rfl

theorem sx_dp (h : Fin 8) (r i : Fin 384) : (stepX m c t X).dpX h r i = (argsOf m c).kdp (bOf t) (kvOf t) h r i := by
  unfold Step.dpX Step.dlX Args.kdp Args.dl
  have e1 : ∀ d, (stepX m c t X).V (ix4 0 0 d r) = (argsOf m c).v (bOf t) r (kvOf t) d := fun d => blk7 m c t d r
  have e2 : ∀ d, (stepX m c t X).dO (ix4 0 h d i) = (argsOf m c).dO (bOf t) i (hOf (kvOf t) h) d := fun d => blk10 m c t h d i
  have e3 : ∀ d, (stepX m c t X).O (ix4 0 h d i) = (argsOf m c).o (bOf t) i (hOf (kvOf t) h) d := fun d => blk8 m c t h d i
  rw [sx_vs]
  simp only [e1, e2, e3, sx_dosr]

/-- The kernel's query gradient at key/value head `kv` of batch row `b`. -/
def kdq (A : Args) (b : Fin 3) (kv : Fin 4) : Fin 8 → Fin 64 → Fin 384 → EReal := A.dq b kv (A.kp b kv) (A.kdp b kv)
/-- The kernel's key gradient. -/
def kdk (A : Args) (b : Fin 3) (kv : Fin 4) : Fin 64 → Fin 384 → EReal := A.dk b kv (A.kp b kv) (A.kdp b kv)
/-- The kernel's value gradient. -/
def kdv (A : Args) (b : Fin 3) (kv : Fin 4) : Fin 64 → Fin 384 → EReal := A.dv b kv (A.kp b kv)

theorem sx_dq (h : Fin 8) (d : Fin 64) (i : Fin 384) : (stepX m c t X).dqX (mkOf (segRow m c t)) h d i = kdq (argsOf m c) (bOf t) (kvOf t) h d i := by
  unfold Step.dqX Step.dsX kdq Args.dq
  have e1 : ∀ r, (stepX m c t X).K (ix4 0 0 d r) = (argsOf m c).k (bOf t) r (kvOf t) d := fun r => blk6 m c t d r
  rw [sx_ks]
  simp only [e1, sx_p, sx_dp]
theorem sx_dk (d : Fin 64) (r : Fin 384) : (stepX m c t X).dkX (mkOf (segRow m c t)) d r = kdk (argsOf m c) (bOf t) (kvOf t) d r := by
  unfold Step.dkX Step.dsX kdk Args.dk
  have e2 : ∀ h i, (stepX m c t X).Q (ix4 0 h d i) = (argsOf m c).q (bOf t) i (hOf (kvOf t) h) d := fun h i => blk5 m c t h d i
  simp only [e2, sx_p, sx_dp, sx_qs]
theorem sx_dv (d : Fin 64) (r : Fin 384) : (stepX m c t X).dvX (mkOf (segRow m c t)) d r = kdv (argsOf m c) (bOf t) (kvOf t) d r := by
  unfold Step.dvX kdv Args.dv
  have e2 : ∀ h i, (stepX m c t X).dO (ix4 0 h d i) = (argsOf m c).dO (bOf t) i (hOf (kvOf t) h) d := fun h i => blk10 m c t h d i
  simp only [e2, sx_p, sx_dosr]

end Cert.KernelIdeal.Value
end
end
-- ==== Proof.PreVal.lean ====
module
public import proofs.«01_k».proof.Defs
public import proofs.«01_k».proof.Proof.Gen.Pre_scales_ok
public import proofs.«01_k».proof.Proof.StepVal
public import Idealize.ShloMosaic.Lib.ReduceAll
@[expose] public section
noncomputable section
open Idealize.ShloMosaic Idealize.ShloMosaic.TcCoe Idealize.SL.Sem
namespace Cert.PreVal
open Cert.Attn Cert.Attn.Args

theorem ofBits_zero : Ideal.ofBits .f32 0x00000000#32 = 0 := by simp [Ideal.ofBits, Ideal.ieee]
theorem ofBits_inf : Ideal.ofBits .f32 0x7F800000#32 = ⊤ := by simp [Ideal.ofBits, Ideal.ieee]

/-- A value that passes both comparisons is a finite number that is not negative. -/
theorem fin0_of (x : EReal)
    (h : IntOp.andi (Ideal.cmp .oge x (Ideal.ofBits .f32 0x00000000#32)) (Ideal.cmp .olt x (Ideal.ofBits .f32 0x7F800000#32)) = 1#1) : Fin0 x := by
  obtain ⟨h1, h2⟩ := IntOp.andi_eq_one.1 h
  rw [ofBits_zero] at h1
  rw [ofBits_inf] at h2
  refine ⟨?_, ?_⟩
  · by_contra hn
    simp [Ideal.cmp, hn] at h1
  · intro e
    simp [Ideal.cmp, e] at h2

instance : Subsingleton Cert.Pre_scales_ok.S_.Idx := ⟨fun a b => funext fun i => i.elim0⟩

/-- The precondition says that the scales of the values and of the output gradient are finite and not negative. -/
theorem fin0 (m : (ℓ : Loc Cert.KernelIdeal.nD Cert.KernelIdeal.τ Cert.KernelIdeal.sig) → Buf (Elt Ideal) ℓ)
    (hpre : Pre_KernelIdeal_scales_ok m) (c : Dev Cert.KernelIdeal.nD) :
    (∀ kv, Fin0 ((Cert.KernelIdeal.Value.argsOf m c).vs kv)) ∧ ∀ b i, Fin0 ((Cert.KernelIdeal.Value.argsOf m c).dos b i) := by
  have h := congrFun (hpre c) (fun i => i.elim0)
  obtain ⟨h1, h2⟩ := IntOp.andi_eq_one.1 h
  exact ⟨fun kv => fin0_of _ (Host.reduce_andi_all _ _ _ _ _ h1 (ix1 kv)), fun b i => fin0_of _ (Host.reduce_andi_all _ _ _ _ _ h2 (ix2 b i))⟩
end Cert.PreVal
end
end
-- ==== Proof.Scratch.lean ====
module
public import proofs.«01_k».proof.Proof.StepVal
public import Idealize.ShloMosaic.Lib.Pipeline.ValueKit.Held
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Attn
variable (m : (ℓ : Loc nD τ sig) → Buf (Elt Ideal) ℓ) (c : Dev nD)

/-- What the scratch buffer holds after every grid point: the mask of the point's batch row. -/
theorem scr_all (t : Fin cfg0.N) (y : S3x384x128.Idx) : (outsAt0 m c t.val t.isLt).2.2.2 y = mkOf (segRow m c t) (y 1) (qi (y 0) (y 2)) := by
  refine (Pipeline.eq_of_write_hold_apply (fun n h => (outsAt0 m c n h).2.2.2) 4 (fun t y => mkOf (segRow m c t) (y 1) (qi (y 0) (y 2)))
    (fun t h y => scrA m c t h y) (fun t h y => ?_) t y).trans ?_
  · beta_reduce
    rw [outsAt0_B m c t h]; frame_out; rfl
  · simp only [seg_row]
    have e : bOf ⟨4 * (t.val / 4), Pipeline.run_start_lt t⟩ = bOf t := Fin.ext (by simp only [bOf]; omega)
    rw [e]

/-- … and so what a point that is not the first of its batch row finds there. -/
theorem scr_prev (t : Fin cfg0.N) (h : ¬ t.val % 4 = 0) (hl : t.val - 1 < cfg0.N) (y : S3x384x128.Idx) :
    (outsAt0 m c (t.val - 1) hl).2.2.2 y = mkOf (segRow m c t) (y 1) (qi (y 0) (y 2)) := by
  refine (scr_all m c ⟨t.val - 1, hl⟩ y).trans ?_
  have e : bOf ⟨t.val - 1, hl⟩ = bOf t := Fin.ext (by simp only [bOf]; omega)
  simp only [seg_row, e]
end Cert.KernelIdeal.Value
end
end
-- ==== Proof.Pieces.lean ====
module
public import proofs.«01_k».proof.Proof.Scratch
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Attn

/-- A cell of a stored tile by its two proper coordinates. -/
theorem unit4 (x : S1x1x64x128.Idx) : x = ix4 (0 : Fin 1) (0 : Fin 1) (x 2) (x 3) := by
  funext a; fin_cases a
  · exact Fin.ext (Nat.lt_one_iff.mp (x 0).isLt)
  · exact Fin.ext (Nat.lt_one_iff.mp (x 1).isLt)
  · rfl
  · rfl

variable (m : (ℓ : Loc nD τ sig) → Buf (Elt Ideal) ℓ) (c : Dev nD) (t : Fin cfg0.N) (X : Vec Ideal S3x384x128 .f32)
  (hX : ∀ y, X y = mkOf (segRow m c t) (y 1) (qi (y 0) (y 2)))

include hX in
/-- Tile 0 of the value gradient. -/
theorem pv0 (x : S1x1x64x128.Idx) : Step.stV (Step.acc0 (stepX m c t X).dv0 (stepX m c t X).dv1 (stepX m c t X).dv2) x = kdv (argsOf m c) (bOf t) (kvOf t) (x 2) (qi 0 (x 3)) :=
  (congrArg _ (unit4 x)).trans (((v0_eq (D := stepX m c t X) (sx_b0 m c t X hX) (sx_b1 m c t X hX) (sx_b2 m c t X hX) (causal_mkOf _) (x 2) (x 3))).trans (sx_dv m c t X (x 2) (qi 0 (x 3))))
include hX in
/-- Tile 1 of the value gradient. -/
theorem pv1 (x : S1x1x64x128.Idx) : Step.stV (Step.acc1 (stepX m c t X).dv1 (stepX m c t X).dv2) x = kdv (argsOf m c) (bOf t) (kvOf t) (x 2) (qi 1 (x 3)) :=
  (congrArg _ (unit4 x)).trans (((v1_eq (D := stepX m c t X) (sx_b1 m c t X hX) (sx_b2 m c t X hX) (causal_mkOf _) (x 2) (x 3))).trans (sx_dv m c t X (x 2) (qi 1 (x 3))))
include hX in
/-- Tile 2 of the value gradient. -/
theorem pv2 (x : S1x1x64x128.Idx) : Step.stV (Step.acc2 (stepX m c t X).dv2) x = kdv (argsOf m c) (bOf t) (kvOf t) (x 2) (qi 2 (x 3)) :=
  (congrArg _ (unit4 x)).trans (((v2_eq (D := stepX m c t X) (sx_b2 m c t X hX) (causal_mkOf _) (x 2) (x 3))).trans (sx_dv m c t X (x 2) (qi 2 (x 3))))
include hX in
/-- Tile 0 of the key gradient. -/
theorem pk0 (x : S1x1x64x128.Idx) : Step.stK (Step.acc0 (stepX m c t X).dk0 (stepX m c t X).dk1 (stepX m c t X).dk2) x = kdk (argsOf m c) (bOf t) (kvOf t) (x 2) (qi 0 (x 3)) :=
  (congrArg _ (unit4 x)).trans (((k0_eq (D := stepX m c t X) (sx_b0 m c t X hX) (sx_b1 m c t X hX) (sx_b2 m c t X hX) (causal_mkOf _) (x 2) (x 3))).trans (sx_dk m c t X (x 2) (qi 0 (x 3))))
include hX in
/-- Tile 1 of the key gradient. -/
theorem pk1 (x : S1x1x64x128.Idx) : Step.stK (Step.acc1 (stepX m c t X).dk1 (stepX m c t X).dk2) x = kdk (argsOf m c) (bOf t) (kvOf t) (x 2) (qi 1 (x 3)) :=
  (congrArg _ (unit4 x)).trans (((k1_eq (D := stepX m c t X) (sx_b1 m c t X hX) (sx_b2 m c t X hX) (causal_mkOf _) (x 2) (x 3))).trans (sx_dk m c t X (x 2) (qi 1 (x 3))))
include hX in
/-- Tile 2 of the key gradient. -/
theorem pk2 (x : S1x1x64x128.Idx) : Step.stK (Step.acc2 (stepX m c t X).dk2) x = kdk (argsOf m c) (bOf t) (kvOf t) (x 2) (qi 2 (x 3)) :=
  (congrArg _ (unit4 x)).trans (((k2_eq (D := stepX m c t X) (sx_b2 m c t X hX) (causal_mkOf _) (x 2) (x 3))).trans (sx_dk m c t X (x 2) (qi 2 (x 3))))
include hX in
/-- Tile 0 of the query gradient of the first head of a pair. -/
theorem pq00 (h0 h1 : Fin 8) (x : S1x1x64x128.Idx) : (stepX m c t X).dq00 h0 h1 x = kdq (argsOf m c) (bOf t) (kvOf t) h0 (x 2) (qi 0 (x 3)) :=
  (congrArg _ (unit4 x)).trans (((dq00_eq (D := stepX m c t X) (sx_b0 m c t X hX) (causal_mkOf _) h0 h1 (x 2) (x 3))).trans (sx_dq m c t X h0 (x 2) (qi 0 (x 3))))
include hX in
/-- Tile 0 of the query gradient of the second head of a pair. -/
theorem pq01 (h0 h1 : Fin 8) (x : S1x1x64x128.Idx) : (stepX m c t X).dq01 h0 h1 x = kdq (argsOf m c) (bOf t) (kvOf t) h1 (x 2) (qi 0 (x 3)) :=
  (congrArg _ (unit4 x)).trans (((dq01_eq (D := stepX m c t X) (sx_b0 m c t X hX) (causal_mkOf _) h0 h1 (x 2) (x 3))).trans (sx_dq m c t X h1 (x 2) (qi 0 (x 3))))
include hX in
/-- Tile 1 of the query gradient of the first head of a pair. -/
theorem pq10 (h0 h1 : Fin 8) (x : S1x1x64x128.Idx) : (stepX m c t X).dq10 h0 h1 x = kdq (argsOf m c) (bOf t) (kvOf t) h0 (x 2) (qi 1 (x 3)) :=
  (congrArg _ (unit4 x)).trans (((dq10_eq (D := stepX m c t X) (sx_b1 m c t X hX) (causal_mkOf _) h0 h1 (x 2) (x 3))).trans (sx_dq m c t X h0 (x 2) (qi 1 (x 3))))
include hX in
/-- Tile 1 of the query gradient of the second head of a pair. -/
theorem pq11 (h0 h1 : Fin 8) (x : S1x1x64x128.Idx) : (stepX m c t X).dq11 h0 h1 x = kdq (argsOf m c) (bOf t) (kvOf t) h1 (x 2) (qi 1 (x 3)) :=
  (congrArg _ (unit4 x)).trans (((dq11_eq (D := stepX m c t X) (sx_b1 m c t X hX) (causal_mkOf _) h0 h1 (x 2) (x 3))).trans (sx_dq m c t X h1 (x 2) (qi 1 (x 3))))
include hX in
/-- Tile 2 of the query gradient of the first head of a pair. -/
theorem pq20 (h0 h1 : Fin 8) (x : S1x1x64x128.Idx) : (stepX m c t X).dq20 h0 h1 x = kdq (argsOf m c) (bOf t) (kvOf t) h0 (x 2) (qi 2 (x 3)) :=
  (congrArg _ (unit4 x)).trans (((dq20_eq (D := stepX m c t X) (sx_b2 m c t X hX) (causal_mkOf _) h0 h1 (x 2) (x 3))).trans (sx_dq m c t X h0 (x 2) (qi 2 (x 3))))
include hX in
/-- Tile 2 of the query gradient of the second head of a pair. -/
theorem pq21 (h0 h1 : Fin 8) (x : S1x1x64x128.Idx) : (stepX m c t X).dq21 h0 h1 x = kdq (argsOf m c) (bOf t) (kvOf t) h1 (x 2) (qi 2 (x 3)) :=
  (congrArg _ (unit4 x)).trans (((dq21_eq (D := stepX m c t X) (sx_b2 m c t X hX) (causal_mkOf _) h0 h1 (x 2) (x 3))).trans (sx_dq m c t X h1 (x 2) (qi 2 (x 3))))

end Cert.KernelIdeal.Value
end
end
-- ==== Proof.W11.lean ====
module
public import proofs.«01_k».proof.Proof.Pieces
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Attn
variable (m : (ℓ : Loc nD τ sig) → Buf (Elt Ideal) ℓ) (c : Dev nD)
set_option maxHeartbeats 6000000

/-- The query gradient a grid point stores. -/
theorem win11 (t : Fin cfg0.N) (y : S1x8x64x384.Idx) :
    (outsAt0 m c t.val t.isLt).1 y = kdq (argsOf m c) (bOf t) (kvOf t) (y 1) (y 2) (y 3) := by
  have at_ : ∀ (hh : Fin 8) (d : Fin 64) (i : Fin 384), (y 1).val = hh.val → (y 2).val = d.val → (y 3).val = i.val →
      kdq (argsOf m c) (bOf t) (kvOf t) hh d i = kdq (argsOf m c) (bOf t) (kvOf t) (y 1) (y 2) (y 3) := by
    intro hh d i e1 e2 e3
    obtain rfl : hh = y 1 := Fin.ext e1.symm
    obtain rfl : d = y 2 := Fin.ext e2.symm
    obtain rfl : i = y 3 := Fin.ext e3.symm
    rfl
  by_cases hc : t.val % 4 = 0
  case' pos =>
    have hs := scr_all m c t
    rw [outsAt0_A m c t hc] at hs ⊢
    frame_out
    simp only [View.readCov_eq_canon']
    generalize hX : View.canon (Val := Elt Ideal) (s := S3x384x128) (e := .f32) _ = X
    have hX' : ∀ y, X y = mkOf (segRow m c t) (y 1) (qi (y 0) (y 2)) := fun y => by
      rw [← hX]; refine Eq.trans ?_ (hs y); frame_out; done
    clear hs hX
  case' neg =>
    have hs := scr_prev m c t hc
    rw [outsAt0_B m c t hc]
    frame_out
    simp only [read_unread_whole]
    generalize hX : (outsAt0 m c (t.val - 1) _).2.2.2 = X
    have hX' : ∀ y, X y = mkOf (segRow m c t) (y 1) (qi (y 0) (y 2)) := fun y => by
      rw [← hX]; exact hs _ y
    clear hs hX
  all_goals
    canon_tiles x h
    · refine Eq.trans (b := (stepX m c t X).dq21 6 7 x) ?_ ((pq21 m c t X hX' 6 7 x).trans (at_ _ _ _ (by simp; omega) h2 (by simp only [qi]; simp; omega)))
      simp only [stepX, stepAt, Step.hd, Step.dq21, Step.t2, Fin.isValue, Fin.coe_ofNat_eq_mod, Nat.reduceMod, Nat.reduceMul]
      exact congrFun rfl x
    · refine Eq.trans (b := (stepX m c t X).dq20 6 7 x) ?_ ((pq20 m c t X hX' 6 7 x).trans (at_ _ _ _ (by simp; omega) h2 (by simp only [qi]; simp; omega)))
      simp only [stepX, stepAt, Step.hd, Step.dq20, Step.t2, Fin.isValue, Fin.coe_ofNat_eq_mod, Nat.reduceMod, Nat.reduceMul]
      exact congrFun rfl x
    · refine Eq.trans (b := (stepX m c t X).dq21 4 5 x) ?_ ((pq21 m c t X hX' 4 5 x).trans (at_ _ _ _ (by simp; omega) h2 (by simp only [qi]; simp; omega)))
      simp only [stepX, stepAt, Step.hd, Step.dq21, Step.t2, Fin.isValue, Fin.coe_ofNat_eq_mod, Nat.reduceMod, Nat.reduceMul]
      exact congrFun rfl x
    · refine Eq.trans (b := (stepX m c t X).dq20 4 5 x) ?_ ((pq20 m c t X hX' 4 5 x).trans (at_ _ _ _ (by simp; omega) h2 (by simp only [qi]; simp; omega)))
      simp only [stepX, stepAt, Step.hd, Step.dq20, Step.t2, Fin.isValue, Fin.coe_ofNat_eq_mod, Nat.reduceMod, Nat.reduceMul]
      exact congrFun rfl x
    · refine Eq.trans (b := (stepX m c t X).dq21 2 3 x) ?_ ((pq21 m c t X hX' 2 3 x).trans (at_ _ _ _ (by simp; omega) h2 (by simp only [qi]; simp; omega)))
      simp only [stepX, stepAt, Step.hd, Step.dq21, Step.t2, Fin.isValue, Fin.coe_ofNat_eq_mod, Nat.reduceMod, Nat.reduceMul]
      exact congrFun rfl x
    · refine Eq.trans (b := (stepX m c t X).dq20 2 3 x) ?_ ((pq20 m c t X hX' 2 3 x).trans (at_ _ _ _ (by simp; omega) h2 (by simp only [qi]; simp; omega)))
      simp only [stepX, stepAt, Step.hd, Step.dq20, Step.t2, Fin.isValue, Fin.coe_ofNat_eq_mod, Nat.reduceMod, Nat.reduceMul]
      exact congrFun rfl x
    · refine Eq.trans (b := (stepX m c t X).dq21 0 1 x) ?_ ((pq21 m c t X hX' 0 1 x).trans (at_ _ _ _ (by simp; omega) h2 (by simp only [qi]; simp; omega)))
      simp only [stepX, stepAt, Step.hd, Step.dq21, Step.t2, Fin.isValue, Fin.coe_ofNat_eq_mod, Nat.reduceMod, Nat.reduceMul]
      exact congrFun rfl x
    · refine Eq.trans (b := (stepX m c t X).dq20 0 1 x) ?_ ((pq20 m c t X hX' 0 1 x).trans (at_ _ _ _ (by simp; omega) h2 (by simp only [qi]; simp; omega)))
      simp only [stepX, stepAt, Step.hd, Step.dq20, Step.t2, Fin.isValue, Fin.coe_ofNat_eq_mod, Nat.reduceMod, Nat.reduceMul]
      exact congrFun rfl x
    · refine Eq.trans (b := (stepX m c t X).dq11 6 7 x) ?_ ((pq11 m c t X hX' 6 7 x).trans (at_ _ _ _ (by simp; omega) h2 (by simp only [qi]; simp; omega)))
      simp only [stepX, stepAt, Step.hd, Step.dq11, Step.t1, Fin.isValue, Fin.coe_ofNat_eq_mod, Nat.reduceMod, Nat.reduceMul]
      exact congrFun rfl x
    · refine Eq.trans (b := (stepX m c t X).dq10 6 7 x) ?_ ((pq10 m c t X hX' 6 7 x).trans (at_ _ _ _ (by simp; omega) h2 (by simp only [qi]; simp; omega)))
      simp only [stepX, stepAt, Step.hd, Step.dq10, Step.t1, Fin.isValue, Fin.coe_ofNat_eq_mod, Nat.reduceMod, Nat.reduceMul]
      exact congrFun rfl x
    · refine Eq.trans (b := (stepX m c t X).dq11 4 5 x) ?_ ((pq11 m c t X hX' 4 5 x).trans (at_ _ _ _ (by simp; omega) h2 (by simp only [qi]; simp; omega)))
      simp only [stepX, stepAt, Step.hd, Step.dq11, Step.t1, Fin.isValue, Fin.coe_ofNat_eq_mod, Nat.reduceMod, Nat.reduceMul]
      exact congrFun rfl x
    · refine Eq.trans (b := (stepX m c t X).dq10 4 5 x) ?_ ((pq10 m c t X hX' 4 5 x).trans (at_ _ _ _ (by simp; omega) h2 (by simp only [qi]; simp; omega)))
      simp only [stepX, stepAt, Step.hd, Step.dq10, Step.t1, Fin.isValue, Fin.coe_ofNat_eq_mod, Nat.reduceMod, Nat.reduceMul]
      exact congrFun rfl x
    · refine Eq.trans (b := (stepX m c t X).dq11 2 3 x) ?_ ((pq11 m c t X hX' 2 3 x).trans (at_ _ _ _ (by simp; omega) h2 (by simp only [qi]; simp; omega)))
      simp only [stepX, stepAt, Step.hd, Step.dq11, Step.t1, Fin.isValue, Fin.coe_ofNat_eq_mod, Nat.reduceMod, Nat.reduceMul]
      exact congrFun rfl x
    · refine Eq.trans (b := (stepX m c t X).dq10 2 3 x) ?_ ((pq10 m c t X hX' 2 3 x).trans (at_ _ _ _ (by simp; omega) h2 (by simp only [qi]; simp; omega)))
      simp only [stepX, stepAt, Step.hd, Step.dq10, Step.t1, Fin.isValue, Fin.coe_ofNat_eq_mod, Nat.reduceMod, Nat.reduceMul]
      exact congrFun rfl x
    · refine Eq.trans (b := (stepX m c t X).dq11 0 1 x) ?_ ((pq11 m c t X hX' 0 1 x).trans (at_ _ _ _ (by simp; omega) h2 (by simp only [qi]; simp; omega)))
      simp only [stepX, stepAt, Step.hd, Step.dq11, Step.t1, Fin.isValue, Fin.coe_ofNat_eq_mod, Nat.reduceMod, Nat.reduceMul]
      exact congrFun rfl x
    · refine Eq.trans (b := (stepX m c t X).dq10 0 1 x) ?_ ((pq10 m c t X hX' 0 1 x).trans (at_ _ _ _ (by simp; omega) h2 (by simp only [qi]; simp; omega)))
      simp only [stepX, stepAt, Step.hd, Step.dq10, Step.t1, Fin.isValue, Fin.coe_ofNat_eq_mod, Nat.reduceMod, Nat.reduceMul]
      exact congrFun rfl x
    · refine Eq.trans (b := (stepX m c t X).dq01 6 7 x) ?_ ((pq01 m c t X hX' 6 7 x).trans (at_ _ _ _ (by simp; omega) h2 (by simp only [qi]; simp; omega)))
      simp only [stepX, stepAt, Step.hd, Step.dq01, Step.t0, Fin.isValue, Fin.coe_ofNat_eq_mod, Nat.reduceMod, Nat.reduceMul]
      exact congrFun rfl x
    · refine Eq.trans (b := (stepX m c t X).dq00 6 7 x) ?_ ((pq00 m c t X hX' 6 7 x).trans (at_ _ _ _ (by simp; omega) h2 (by simp only [qi]; simp; omega)))
      simp only [stepX, stepAt, Step.hd, Step.dq00, Step.t0, Fin.isValue, Fin.coe_ofNat_eq_mod, Nat.reduceMod, Nat.reduceMul]
      exact congrFun rfl x
    · refine Eq.trans (b := (stepX m c t X).dq01 4 5 x) ?_ ((pq01 m c t X hX' 4 5 x).trans (at_ _ _ _ (by simp; omega) h2 (by simp only [qi]; simp; omega)))
      simp only [stepX, stepAt, Step.hd, Step.dq01, Step.t0, Fin.isValue, Fin.coe_ofNat_eq_mod, Nat.reduceMod, Nat.reduceMul]
      exact congrFun rfl x
    · refine Eq.trans (b := (stepX m c t X).dq00 4 5 x) ?_ ((pq00 m c t X hX' 4 5 x).trans (at_ _ _ _ (by simp; omega) h2 (by simp only [qi]; simp; omega)))
      simp only [stepX, stepAt, Step.hd, Step.dq00, Step.t0, Fin.isValue, Fin.coe_ofNat_eq_mod, Nat.reduceMod, Nat.reduceMul]
      exact congrFun rfl x
    · refine Eq.trans (b := (stepX m c t X).dq01 2 3 x) ?_ ((pq01 m c t X hX' 2 3 x).trans (at_ _ _ _ (by simp; omega) h2 (by simp only [qi]; simp; omega)))
      simp only [stepX, stepAt, Step.hd, Step.dq01, Step.t0, Fin.isValue, Fin.coe_ofNat_eq_mod, Nat.reduceMod, Nat.reduceMul]
      exact congrFun rfl x
    · refine Eq.trans (b := (stepX m c t X).dq00 2 3 x) ?_ ((pq00 m c t X hX' 2 3 x).trans (at_ _ _ _ (by simp; omega) h2 (by simp only [qi]; simp; omega)))
      simp only [stepX, stepAt, Step.hd, Step.dq00, Step.t0, Fin.isValue, Fin.coe_ofNat_eq_mod, Nat.reduceMod, Nat.reduceMul]
      exact congrFun rfl x
    · refine Eq.trans (b := (stepX m c t X).dq01 0 1 x) ?_ ((pq01 m c t X hX' 0 1 x).trans (at_ _ _ _ (by simp; omega) h2 (by simp only [qi]; simp; omega)))
      simp only [stepX, stepAt, Step.hd, Step.dq01, Step.t0, Fin.isValue, Fin.coe_ofNat_eq_mod, Nat.reduceMod, Nat.reduceMul]
      exact congrFun rfl x
    · refine Eq.trans (b := (stepX m c t X).dq00 0 1 x) ?_ ((pq00 m c t X hX' 0 1 x).trans (at_ _ _ _ (by simp; omega) h2 (by simp only [qi]; simp; omega)))
      simp only [stepX, stepAt, Step.hd, Step.dq00, Step.t0, Fin.isValue, Fin.coe_ofNat_eq_mod, Nat.reduceMod, Nat.reduceMul]
      exact congrFun rfl x
end Cert.KernelIdeal.Value
end
end
-- ==== Proof.W12.lean ====
module
public import proofs.«01_k».proof.Proof.Pieces
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Attn
variable (m : (ℓ : Loc nD τ sig) → Buf (Elt Ideal) ℓ) (c : Dev nD)
set_option maxHeartbeats 6000000

/-- The key gradient a grid point stores. -/
theorem win12 (t : Fin cfg0.N) (y : S1x1x64x384.Idx) :
    (outsAt0 m c t.val t.isLt).2.1 y = kdk (argsOf m c) (bOf t) (kvOf t) (y 2) (y 3) := by
  by_cases hc : t.val % 4 = 0
  case' pos =>
    have hs := scr_all m c t
    rw [outsAt0_A m c t hc] at hs ⊢
    frame_out
    simp only [View.readCov_eq_canon']
    generalize hX : View.canon (Val := Elt Ideal) (s := S3x384x128) (e := .f32) _ = X
    have hX' : ∀ y, X y = mkOf (segRow m c t) (y 1) (qi (y 0) (y 2)) := fun y => by
      rw [← hX]; refine Eq.trans ?_ (hs y); frame_out; done
    clear hs hX
  case' neg =>
    have hs := scr_prev m c t hc
    rw [outsAt0_B m c t hc]
    frame_out
    simp only [read_unread_whole]
    generalize hX : (outsAt0 m c (t.val - 1) _).2.2.2 = X
    have hX' : ∀ y, X y = mkOf (segRow m c t) (y 1) (qi (y 0) (y 2)) := fun y => by
      rw [← hX]; exact hs _ y
    clear hs hX
  all_goals
    canon_tiles x h
    · refine Eq.trans (b := Step.stK (Step.acc2 (stepX m c t X).dk2) x) ?_ ((pk2 m c t X hX' x).trans (congrArg₂ (kdk (argsOf m c) (bOf t) (kvOf t)) (Fin.ext h2.symm) (Fin.ext (by simp only [qi]; omega))))
      simp only [stepX, stepAt, Step.hd, Step.acc2, Step.dk2, Step.sum4, Step.add4, Step.sl22, Step.t2, Step.stK, Fin.isValue, Fin.coe_ofNat_eq_mod, Nat.reduceMod, Nat.reduceMul]
      refine congrFun ?_ x
      rfl
    · refine Eq.trans (b := Step.stK (Step.acc1 (stepX m c t X).dk1 (stepX m c t X).dk2) x) ?_ ((pk1 m c t X hX' x).trans (congrArg₂ (kdk (argsOf m c) (bOf t) (kvOf t)) (Fin.ext h2.symm) (Fin.ext (by simp only [qi]; omega))))
      simp only [stepX, stepAt, Step.hd, Step.acc1, Step.dk1, Step.dk2, Step.sum4, Step.add4, Step.sl11, Step.sl21, Step.t1, Step.t2, Step.stK, Fin.isValue, Fin.coe_ofNat_eq_mod, Nat.reduceMod, Nat.reduceMul]
      refine congrFun ?_ x
      rfl
    · refine Eq.trans (b := Step.stK (Step.acc0 (stepX m c t X).dk0 (stepX m c t X).dk1 (stepX m c t X).dk2) x) ?_ ((pk0 m c t X hX' x).trans (congrArg₂ (kdk (argsOf m c) (bOf t) (kvOf t)) (Fin.ext h2.symm) (Fin.ext (by simp only [qi]; omega))))
      simp only [stepX, stepAt, Step.hd, Step.acc0, Step.dk0, Step.dk1, Step.dk2, Step.sum4, Step.add4, Step.sl10, Step.sl20, Step.t0, Step.t1, Step.t2, Step.stK, Fin.isValue, Fin.coe_ofNat_eq_mod, Nat.reduceMod, Nat.reduceMul]
      refine congrFun ?_ x
      rfl
end Cert.KernelIdeal.Value
end
end
-- ==== Proof.W13.lean ====
module
public import proofs.«01_k».proof.Proof.Pieces
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Attn
variable (m : (ℓ : Loc nD τ sig) → Buf (Elt Ideal) ℓ) (c : Dev nD)
set_option maxHeartbeats 6000000

/-- The value gradient a grid point stores. -/
theorem win13 (t : Fin cfg0.N) (y : S1x1x64x384.Idx) :
    (outsAt0 m c t.val t.isLt).2.2.1 y = kdv (argsOf m c) (bOf t) (kvOf t) (y 2) (y 3) := by
  by_cases hc : t.val % 4 = 0
  case' pos =>
    have hs := scr_all m c t
    rw [outsAt0_A m c t hc] at hs ⊢
    frame_out
    simp only [View.readCov_eq_canon']
    generalize hX : View.canon (Val := Elt Ideal) (s := S3x384x128) (e := .f32) _ = X
    have hX' : ∀ y, X y = mkOf (segRow m c t) (y 1) (qi (y 0) (y 2)) := fun y => by
      rw [← hX]; refine Eq.trans ?_ (hs y); frame_out; done
    clear hs hX
  case' neg =>
    have hs := scr_prev m c t hc
    rw [outsAt0_B m c t hc]
    frame_out
    simp only [read_unread_whole]
    generalize hX : (outsAt0 m c (t.val - 1) _).2.2.2 = X
    have hX' : ∀ y, X y = mkOf (segRow m c t) (y 1) (qi (y 0) (y 2)) := fun y => by
      rw [← hX]; exact hs _ y
    clear hs hX
  all_goals
    canon_tiles x h
    · refine Eq.trans (b := Step.stV (Step.acc2 (stepX m c t X).dv2) x) ?_ ((pv2 m c t X hX' x).trans (congrArg₂ (kdv (argsOf m c) (bOf t) (kvOf t)) (Fin.ext h2.symm) (Fin.ext (by simp only [qi]; omega))))
      simp only [stepX, stepAt, Step.hd, Step.acc2, Step.dv2, Step.sum4, Step.add4, Step.sl22, Step.t2, Step.stV, Fin.isValue, Fin.coe_ofNat_eq_mod, Nat.reduceMod, Nat.reduceMul]
      refine congrFun ?_ x
      rfl
    · refine Eq.trans (b := Step.stV (Step.acc1 (stepX m c t X).dv1 (stepX m c t X).dv2) x) ?_ ((pv1 m c t X hX' x).trans (congrArg₂ (kdv (argsOf m c) (bOf t) (kvOf t)) (Fin.ext h2.symm) (Fin.ext (by simp only [qi]; omega))))
      simp only [stepX, stepAt, Step.hd, Step.acc1, Step.dv1, Step.dv2, Step.sum4, Step.add4, Step.sl11, Step.sl21, Step.t1, Step.t2, Step.stV, Fin.isValue, Fin.coe_ofNat_eq_mod, Nat.reduceMod, Nat.reduceMul]
      refine congrFun ?_ x
      rfl
    · refine Eq.trans (b := Step.stV (Step.acc0 (stepX m c t X).dv0 (stepX m c t X).dv1 (stepX m c t X).dv2) x) ?_ ((pv0 m c t X hX' x).trans (congrArg₂ (kdv (argsOf m c) (bOf t) (kvOf t)) (Fin.ext h2.symm) (Fin.ext (by simp only [qi]; omega))))
      simp only [stepX, stepAt, Step.hd, Step.acc0, Step.dv0, Step.dv1, Step.dv2, Step.sum4, Step.add4, Step.sl10, Step.sl20, Step.t0, Step.t1, Step.t2, Step.stV, Fin.isValue, Fin.coe_ofNat_eq_mod, Nat.reduceMod, Nat.reduceMul]
      refine congrFun ?_ x
      rfl
end Cert.KernelIdeal.Value
end
end
-- ==== Proof.Arr.lean ====
module
public import proofs.«01_k».proof.Proof.W11
public import proofs.«01_k».proof.Proof.W12
public import proofs.«01_k».proof.Proof.W13
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Attn
variable (m : (ℓ : Loc nD τ sig) → Buf (Elt Ideal) ℓ) (c : Dev nD)

/-- The key/value head of a query head, and its place in that group. -/
def kvQ (H : Fin 32) : Fin 4 := ⟨H.val / 8, by omega⟩
@[inherit_doc kvQ]
def hQ (H : Fin 32) : Fin 8 := ⟨H.val % 8, by omega⟩

theorem congr4 {α β γ δ ε : Type} (f : α → β → γ → δ → ε) {a a' : α} {b b' : β} {x x' : γ} {y y' : δ} (h1 : a = a') (h2 : b = b') (h3 : x = x')
    (h4 : y = y') : f a b x y = f a' b' x' y' := by subst h1; subst h2; subst h3; subst h4; rfl

/-- The value gradient's array after the run. -/
theorem arr13 : (dats m 0 c).arrAt 13 cfg0.N = fun y : S3x4x64x384.Idx => kdv (argsOf m c) (y 0) (y 1) (y 2) (y 3) := by
  refine (dats m 0 c).arrAt_eq_of_covers 13 _ (by decide +kernel) fun t hf y => ?_
  blk_simp
  rw [after0_13]
  refine (win13 m c t y).trans (congr4 (kdv (argsOf m c)) (Fin.ext ?_) (Fin.ext ?_) (Fin.ext ?_) (Fin.ext ?_)) <;> blk_simp [idx t, bOf, kvOf]

/-- The key gradient's array after the run. -/
theorem arr12 : (dats m 0 c).arrAt 12 cfg0.N = fun y : S3x4x64x384.Idx => kdk (argsOf m c) (y 0) (y 1) (y 2) (y 3) := by
  refine (dats m 0 c).arrAt_eq_of_covers 12 _ (by decide +kernel) fun t hf y => ?_
  blk_simp
  rw [after0_12]
  refine (win12 m c t y).trans (congr4 (kdk (argsOf m c)) (Fin.ext ?_) (Fin.ext ?_) (Fin.ext ?_) (Fin.ext ?_)) <;> blk_simp [idx t, bOf, kvOf]

/-- The query gradient by the query head's own number. -/
def kdqH (A : Args) (b : Fin 3) (H : Fin 32) (d : Fin 64) (i : Fin 384) : EReal := kdq A b (kvQ H) (hQ H) d i

theorem kdqH_eq (A : Args) (b : Fin 3) (kv : Fin 4) (h : Fin 8) (H : Fin 32) (d : Fin 64) (i : Fin 384) (e : H.val = 8 * kv.val + h.val) :
    kdq A b kv h d i = kdqH A b H d i := by
  obtain rfl : kv = kvQ H := Fin.ext (by simp only [kvQ]; omega)
  obtain rfl : h = hQ H := Fin.ext (by simp only [hQ] at *; omega)
  rfl

/-- The query gradient's array after the run. -/
theorem arr11 : (dats m 0 c).arrAt 11 cfg0.N = fun y : S3x32x64x384.Idx => kdqH (argsOf m c) (y 0) (y 1) (y 2) (y 3) := by
  refine (dats m 0 c).arrAt_eq_of_covers 11 _ (by decide +kernel) fun t hf y => ?_
  blk_simp
  rw [after0_11]
  refine (win11 m c t y).trans ((kdqH_eq _ _ _ _ (((cfg0.win 11).blk t).view.emb y 1) _ _ ?_).trans
    (congr4 (kdqH (argsOf m c)) (Fin.ext ?_) (Fin.ext ?_) (Fin.ext ?_) (Fin.ext ?_))) <;> blk_simp [idx t, bOf, kvOf]
  exact congrArg (· + (y 1).val) (Nat.mul_comm _ _)

end Cert.KernelIdeal.Value
end
end
-- ==== Proof.KTail.lean ====
module
public import proofs.«01_k».proof.Proof.Arr
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Attn
variable (m : (ℓ : Loc nD τ sig) → Buf (Elt Ideal) ℓ) (c : Dev nD)

theorem spec_inj : Function.Injective (Pipeline.arrRef (cfgs 0).spec) := by decide +kernel

theorem end11 : Pipeline.withArrays (cfgs 0).spec c (V0 m c) (fun w => (dats m 0 c).arrAt w (cfgs 0).N) (Proc.devRef .tc main_v5_0)
    = fun y : S3x32x64x384.Idx => kdqH (argsOf m c) (y 0) (y 1) (y 2) (y 3) :=
  (Pipeline.withArrays_arr (cfgs 0).spec spec_inj c (V0 m c) _ 11).trans (arr11 m c)
theorem end12 : Pipeline.withArrays (cfgs 0).spec c (V0 m c) (fun w => (dats m 0 c).arrAt w (cfgs 0).N) (Proc.devRef .tc main_v5_1)
    = fun y : S3x4x64x384.Idx => kdk (argsOf m c) (y 0) (y 1) (y 2) (y 3) :=
  (Pipeline.withArrays_arr (cfgs 0).spec spec_inj c (V0 m c) _ 12).trans (arr12 m c)
theorem end13 : Pipeline.withArrays (cfgs 0).spec c (V0 m c) (fun w => (dats m 0 c).arrAt w (cfgs 0).N) (Proc.devRef .tc main_v5_2)
    = fun y : S3x4x64x384.Idx => kdv (argsOf m c) (y 0) (y 1) (y 2) (y 3) :=
  (Pipeline.withArrays_arr (cfgs 0).spec spec_inj c (V0 m c) _ 13).trans (arr13 m c)

/-- The query gradient, the program's first result. -/
theorem tail6 (b : Fin 3) (i : Fin 384) (H : Fin 32) (d : Fin 64) : Pipeline.afterTail₀ cfgs (dats m) 0 (V0 m) [hostOps1] c main_v6 (ix4 b i H d)
    = kdqH (argsOf m c) b H d i := by
  show StableHlo.after hostOps1 _ (Proc.devRef .tc main_v6) _ = _
  after_results
  rw [end11]
  pointwise []
/-- The key gradient, the program's second result. -/
theorem tail7 (b : Fin 3) (r : Fin 384) (kv : Fin 4) (d : Fin 64) : Pipeline.afterTail₀ cfgs (dats m) 0 (V0 m) [hostOps1] c main_v7 (ix4 b r kv d)
    = kdk (argsOf m c) b kv d r := by
  show StableHlo.after hostOps1 _ (Proc.devRef .tc main_v7) _ = _
  after_results
  rw [end12]
  pointwise []
/-- The value gradient, the program's third result. -/
theorem tail8 (b : Fin 3) (r : Fin 384) (kv : Fin 4) (d : Fin 64) : Pipeline.afterTail₀ cfgs (dats m) 0 (V0 m) [hostOps1] c main_v8 (ix4 b r kv d)
    = kdv (argsOf m c) b kv d r := by
  show StableHlo.after hostOps1 _ (Proc.devRef .tc main_v8) _ = _
  after_results
  rw [end13]
  pointwise []
end Cert.KernelIdeal.Value
end
end
-- ==== Proof.Ref.lean ====
module
public import proofs.«01_k».proof.Defs
public import proofs.«01_k».proof.Proof.Gen.ReferenceIdeal.Frame
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
namespace Cert.ReferenceIdeal.Value
open Cert.ReferenceIdeal Cert.ReferenceIdeal.Gen

section
variable (Q dO : FVec Ideal S3x384x32x64 .bf16) (K V : FVec Ideal S3x384x4x64 .bf16) (O : FVec Ideal S3x384x32x64 .bf16) (qs : FVec Ideal S32 .f32)
  (ks vs : FVec Ideal S4 .f32) (L : FVec Ideal S3x32x384 .f32) (ds : FVec Ideal S3x384 .f32) (sg : IVec S3x384 32)

/-- The reference's mask: the key is not after the query, and of its segment. -/
def rMask : IVec S3x384x384 1 :=
  andi
    (broadcastInDim S3x384x384 ![0, 1, 2] bcast_S1x384x384_S3x384x384_0_1_2
      (cmpi CmpIPredicate.sle
        (broadcastInDim S1x384x384 ![0, 1, 2] bcast_S1x1x384_S1x384x384_0_1_2 (broadcastInDim S1x1x384 ![2] bcast_S384_S1x1x384_2 (iotaInDim S384 32 0)))
        (broadcastInDim S1x384x384 ![0, 1, 2] bcast_S1x384x1_S1x384x384_0_1_2 (broadcastInDim S1x384x1 ![1] bcast_S384_S1x384x1_1 (iotaInDim S384 32 0)))))
    (cmpi CmpIPredicate.eq
      (broadcastInDim S3x384x384 ![0, 1, 2] bcast_S3x384x1_S3x384x384_0_1_2 (broadcastInDim S3x384x1 ![0, 1] bcast_S3x384_S3x384x1_0_1 sg))
      (broadcastInDim S3x384x384 ![0, 1, 2] bcast_S3x1x384_S3x384x384_0_1_2 (broadcastInDim S3x1x384 ![0, 2] bcast_S3x384_S3x1x384_0_2 sg)))

/-- The reference's scaled scores. -/
def rS : FVec Ideal S3x4x8x384x384 .f32 :=
  mulf
    (transpose S3x4x8x384x384 [0, 1, 4, 3, 2]
      (Host.dotGeneral dot_S3x384x4x64_S3x384x4x8x64_S3x4x384x384x8_3_4_1_13_02_02 none K (shapeCast S3x384x4x8x64 Q shapeCasts_S3x384x32x64_S3x384x4x8x64))
      transposes_S3x4x384x384x8_S3x4x8x384x384_0_1_4_3_2)
    (broadcastInDim S3x4x8x384x384 ![0, 1, 2, 3, 4] bcast_S1x4x8x1x1_S3x4x8x384x384_0_1_2_3_4
      (broadcastInDim S1x4x8x1x1 ![1, 2] bcast_S4x8_S1x4x8x1x1_1_2
        (mulf
          (mulf (shapeCast S4x8 qs shapeCasts_S32_S4x8)
            (broadcastInDim S4x8 ![0, 1] bcast_S4x1_S4x8_0_1 (broadcastInDim S4x1 ![0] bcast_S4_S4x1_0 ks)))
          (broadcastInDim S4x8 ![] bcast_S_S4x8 (constant S_ FTy.f32 0x3E000000#32)))))

/-- The reference's probabilities. -/
def rP : FVec Ideal S3x4x8x384x384 .f32 :=
  Host.exp
    (subf
      (select
        (broadcastInDim S3x4x8x384x384 ![0, 1, 2, 3, 4] bcast_S3x1x1x384x384_S3x4x8x384x384_0_1_2_3_4
          (broadcastInDim S3x1x1x384x384 ![0, 3, 4] bcast_S3x384x384_S3x1x1x384x384_0_3_4 (rMask sg)))
        (rS Q K qs ks)
        (broadcastInDim S3x4x8x384x384 ![] bcast_S_S3x4x8x384x384 (constant S_ FTy.f32 0xFF800000#32)))
      (broadcastInDim S3x4x8x384x384 ![0, 1, 2, 3, 4] bcast_S3x4x8x384x1_S3x4x8x384x384_0_1_2_3_4
        (broadcastInDim S3x4x8x384x1 ![0, 1, 2, 3] bcast_S3x4x8x384_S3x4x8x384x1_0_1_2_3
          (shapeCast S3x4x8x384 L shapeCasts_S3x32x384_S3x4x8x384))))

/-- The row sums the reference subtracts. -/
def rDelta : FVec Ideal S3x32x384 .f32 :=
  Host.dotGeneral dot_S3x384x32x64_S3x384x32x64_S3x32x384_3_3_n_n_021_021 (some .fp32)
    (mulf (extf .f32 dO bitsLt_bf16_f32)
      (broadcastInDim S3x384x32x64 ![0, 1, 2, 3] bcast_S3x384x1x1_S3x384x32x64_0_1_2_3 (broadcastInDim S3x384x1x1 ![0, 1] bcast_S3x384_S3x384x1x1_0_1 ds)))
    (extf .f32 O bitsLt_bf16_f32)

/-- The reference's gradient of the probabilities, less the row sums. -/
def rDP : FVec Ideal S3x4x8x384x384 .f32 :=
  subf
    (mulf
      (mulf
        (transpose S3x4x8x384x384 [0, 1, 4, 3, 2]
          (Host.dotGeneral dot_S3x384x4x64_S3x384x4x8x64_S3x4x384x384x8_3_4_1_13_02_02 none V (shapeCast S3x384x4x8x64 dO shapeCasts_S3x384x32x64_S3x384x4x8x64))
          transposes_S3x4x384x384x8_S3x4x8x384x384_0_1_4_3_2)
        (broadcastInDim S3x4x8x384x384 ![0, 1, 2, 3, 4] bcast_S3x1x1x384x1_S3x4x8x384x384_0_1_2_3_4
          (broadcastInDim S3x1x1x384x1 ![0, 3] bcast_S3x384_S3x1x1x384x1_0_3 ds)))
      (broadcastInDim S3x4x8x384x384 ![0, 1, 2, 3, 4] bcast_S1x4x1x1x1_S3x4x8x384x384_0_1_2_3_4
        (broadcastInDim S1x4x1x1x1 ![1] bcast_S4_S1x4x1x1x1_1 vs)))
    (broadcastInDim S3x4x8x384x384 ![0, 1, 2, 3, 4] bcast_S3x4x8x384x1_S3x4x8x384x384_0_1_2_3_4
      (broadcastInDim S3x4x8x384x1 ![0, 1, 2, 3] bcast_S3x4x8x384_S3x4x8x384x1_0_1_2_3
        (shapeCast S3x4x8x384 (rDelta dO O ds) shapeCasts_S3x32x384_S3x4x8x384)))

/-- The reference's gradient of the scores. -/
def rDS : FVec Ideal S3x4x8x384x384 .f32 := mulf (rP Q K qs ks L sg) (rDP dO V O vs ds)

/-- The reference's query gradient from the gradient of the scores. -/
def rQ (D : FVec Ideal S3x4x8x384x384 .f32) : FVec Ideal S3x384x32x64 .bf16 :=
  truncf FTy.bf16
    (shapeCast S3x384x32x64
      (mulf
        (transpose S3x384x4x8x64 [0, 4, 1, 3, 2]
          (Host.dotGeneral dot_S3x384x4x64_S3x4x8x384x384_S3x4x64x8x384_1_4_3_23_02_01 none K (truncf FTy.bf16 D bitsLt_bf16_f32))
          transposes_S3x4x64x8x384_S3x384x4x8x64_0_4_1_3_2)
        (broadcastInDim S3x384x4x8x64 ![0, 1, 2, 3, 4] bcast_S1x1x4x1x1_S3x384x4x8x64_0_1_2_3_4
          (broadcastInDim S1x1x4x1x1 ![2] bcast_S4_S1x1x4x1x1_2
            (mulf ks (broadcastInDim S4 ![] bcast_S_S4 (constant S_ FTy.f32 0x3E000000#32))))))
      shapeCasts_S3x384x4x8x64_S3x384x32x64)
    bitsLt_bf16_f32

/-- The reference's key gradient from the gradient of the scores. -/
def rK (D : FVec Ideal S3x4x8x384x384 .f32) : FVec Ideal S3x384x4x64 .bf16 :=
  truncf FTy.bf16
    (mulf (broadcastInDim S3x384x4x64 ![] bcast_S_S3x384x4x64 (constant S_ FTy.f32 0x3E000000#32))
      (transpose S3x384x4x64 [0, 3, 1, 2]
        (Host.dotGeneral dot_S3x384x4x8x64_S3x4x8x384x384_S3x4x64x384_31_23_4_4_02_01 none
          (shapeCast S3x384x4x8x64
            (mulf Q
              (broadcastInDim S3x384x32x64 ![0, 1, 2, 3] bcast_S1x1x32x1_S3x384x32x64_0_1_2_3
                (broadcastInDim S1x1x32x1 ![2] bcast_S32_S1x1x32x1_2 (truncf FTy.bf16 qs bitsLt_bf16_f32))))
            shapeCasts_S3x384x32x64_S3x384x4x8x64)
          (truncf FTy.bf16 D bitsLt_bf16_f32))
        transposes_S3x4x64x384_S3x384x4x64_0_3_1_2))
    bitsLt_bf16_f32

/-- The reference's value gradient from the probabilities. -/
def rV (P : FVec Ideal S3x4x8x384x384 .f32) : FVec Ideal S3x384x4x64 .bf16 :=
  truncf FTy.bf16
    (transpose S3x384x4x64 [0, 3, 1, 2]
      (Host.dotGeneral dot_S3x384x4x8x64_S3x4x8x384x384_S3x4x64x384_31_23_4_4_02_01 none
        (shapeCast S3x384x4x8x64
          (mulf dO
            (broadcastInDim S3x384x32x64 ![0, 1, 2, 3] bcast_S3x384x1x1_S3x384x32x64_0_1_2_3
              (broadcastInDim S3x384x1x1 ![0, 1] bcast_S3x384_S3x384x1x1_0_1 (truncf FTy.bf16 ds bitsLt_bf16_f32))))
          shapeCasts_S3x384x32x64_S3x384x4x8x64)
        (truncf FTy.bf16 P bitsLt_bf16_f32))
      transposes_S3x4x64x384_S3x384x4x64_0_3_1_2)
    bitsLt_bf16_f32
end

variable (W : Valuation τ sig (Elt Ideal))
set_option maxHeartbeats 1600000

theorem read80 : StableHlo.after (hostOps1 ++ hostOps1_1 ++ hostOps1_2) W (Proc.devRef .tc main_v80)
    = rQ (W (Proc.devRef .tc main_v0_1)) (W (Proc.devRef .tc main_arg3))
        (rDS (W (Proc.devRef .tc main_v0_0)) (W (Proc.devRef .tc main_v0_3)) (W (Proc.devRef .tc main_v0_1)) (W (Proc.devRef .tc main_v0_2))
          (W (Proc.devRef .tc main_arg6)) (W (Proc.devRef .tc main_arg1)) (W (Proc.devRef .tc main_arg3)) (W (Proc.devRef .tc main_arg5))
          (W (Proc.devRef .tc main_arg7)) (W (Proc.devRef .tc main_arg9)) (W (Proc.devRef .tc main_arg10))) := by
  simp only [hostOps1, hostOps1_1, hostOps1_2, List.cons_append, List.nil_append]
  after_results
  rfl

theorem read81 : StableHlo.after (hostOps1 ++ hostOps1_1 ++ hostOps1_2) W (Proc.devRef .tc main_v81)
    = rK (W (Proc.devRef .tc main_v0_0)) (W (Proc.devRef .tc main_arg1))
        (rDS (W (Proc.devRef .tc main_v0_0)) (W (Proc.devRef .tc main_v0_3)) (W (Proc.devRef .tc main_v0_1)) (W (Proc.devRef .tc main_v0_2))
          (W (Proc.devRef .tc main_arg6)) (W (Proc.devRef .tc main_arg1)) (W (Proc.devRef .tc main_arg3)) (W (Proc.devRef .tc main_arg5))
          (W (Proc.devRef .tc main_arg7)) (W (Proc.devRef .tc main_arg9)) (W (Proc.devRef .tc main_arg10))) := by
  simp only [hostOps1, hostOps1_1, hostOps1_2, List.cons_append, List.nil_append]
  after_results
  rfl

theorem read82 : StableHlo.after (hostOps1 ++ hostOps1_1 ++ hostOps1_2) W (Proc.devRef .tc main_v82)
    = rV (W (Proc.devRef .tc main_v0_3)) (W (Proc.devRef .tc main_arg9))
        (rP (W (Proc.devRef .tc main_v0_0)) (W (Proc.devRef .tc main_v0_1)) (W (Proc.devRef .tc main_arg1)) (W (Proc.devRef .tc main_arg3))
          (W (Proc.devRef .tc main_arg7)) (W (Proc.devRef .tc main_arg10))) := by
  simp only [hostOps1, hostOps1_1, hostOps1_2, List.cons_append, List.nil_append]
  after_results
  rfl
end Cert.ReferenceIdeal.Value
end
end
-- ==== Proof.RefVal.lean ====
module
public import proofs.«01_k».proof.Proof.Ref
public import proofs.«01_k».proof.Proof.Attn
public import proofs.«01_k».proof.Proof.Mask
public import Idealize.ShloMosaic.Lib.Pointwise.IndexVar
@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.Attn
variable (Q dO : FVec Ideal S3x384x32x64 .bf16) (K V : FVec Ideal S3x384x4x64 .bf16) (O : FVec Ideal S3x384x32x64 .bf16) (qs : FVec Ideal S32 .f32)
  (ks vs : FVec Ideal S4 .f32) (L : FVec Ideal S3x32x384 .f32) (ds : FVec Ideal S3x384 .f32) (sg : IVec S3x384 32)
set_option maxHeartbeats 400000

/-- The reference's operands, by coordinates. -/
def rArgs : Args where
  q b i h d := Q (ix4 b i h d)
  qs h := qs (ix1 h)
  k b i h d := K (ix4 b i h d)
  ks h := ks (ix1 h)
  v b i h d := V (ix4 b i h d)
  vs h := vs (ix1 h)
  o b i h d := O (ix4 b i h d)
  lse b h i := L (ix3 b h i)
  dO b i h d := dO (ix4 b i h d)
  dos b i := ds (ix2 b i)
  seg b i := sg (ix2 b i)

/-- A head's number, the group first. -/
theorem hOf_eq (kv : Fin 4) (h : Fin 8) (p : kv.val * 8 + h.val < 32) : (⟨kv.val * 8 + h.val, p⟩ : Fin 32) = hOf kv h :=
  Fin.ext (congrArg (· + h.val) (Nat.mul_comm _ _))

theorem rS_at (b : Fin 3) (kv : Fin 4) (h : Fin 8) (i r : Fin 384) :
    rS Q K qs ks (ix5 b kv h i r) = (rArgs Q dO K V O qs ks vs L ds sg).s b kv h r i * ((rArgs Q dO K V O qs ks vs L ds sg).qs (hOf kv h) * (rArgs Q dO K V O qs ks vs L ds sg).ks kv * c8) := by
  unfold rS
  pointwise []
  simp only [hOf_eq]
  rfl

/-- The probabilities at coordinates. -/
theorem rP_at (b : Fin 3) (kv : Fin 4) (h : Fin 8) (i r : Fin 384) :
    rP Q K qs ks L sg (ix5 b kv h i r) = (rArgs Q dO K V O qs ks vs L ds sg).rp b kv h r i := by
  unfold rP rMask
  pointwise []
  have e3 : IntOp.cmpi CmpIPredicate.sle (BitVec.ofNat 32 r.val) (BitVec.ofNat 32 i.val) = BitVec.ofBool (decide (r.val ≤ i.val)) :=
    congrArg BitVec.ofBool (Cert.KernelIdeal.Value.sle_small _ _ (by omega) (by omega))
  have e5 : IntOp.cmpi CmpIPredicate.eq (sg (ix2 b i)) (sg (ix2 b r)) = BitVec.ofBool (decide (sg (ix2 b i) = sg (ix2 b r))) := rfl
  simp only [hOf_eq, e3, e5, Cert.KernelIdeal.Value.ofBits_ninf, rS_at Q dO K V O qs ks vs L ds sg]
  unfold Args.rp
  have e4 : (rArgs Q dO K V O qs ks vs L ds sg).sees b r i ↔ (sg (ix2 b i) = sg (ix2 b r) ∧ r.val ≤ i.val) := and_congr_left' eq_comm
  simp only [e4]
  refine congrArg (fun x => Ideal.exp (x - L (ix3 b (hOf kv h) i))) ?_
  by_cases h1 : sg (ix2 b i) = sg (ix2 b r) <;> by_cases h2 : r.val ≤ i.val <;> simp [h1, h2, Scalar.select, IntOp.andi]

/-- The gradient of the probabilities, less the row sums, at coordinates. -/
theorem rDP_at (b : Fin 3) (kv : Fin 4) (h : Fin 8) (i r : Fin 384) :
    rDP dO V O vs ds (ix5 b kv h i r) = (rArgs Q dO K V O qs ks vs L ds sg).rdp b kv h r i := by
  unfold rDP rDelta
  pointwise []
  simp only [hOf_eq]
  unfold Args.rdp Args.dl
  simp only [mul_comm (V _)]
  rfl

/-- The gradient of the scores at coordinates. -/
theorem rDS_at (b : Fin 3) (kv : Fin 4) (h : Fin 8) (i r : Fin 384) :
    rDS Q dO K V O qs ks vs L ds sg (ix5 b kv h i r) = (rArgs Q dO K V O qs ks vs L ds sg).rp b kv h r i * (rArgs Q dO K V O qs ks vs L ds sg).rdp b kv h r i := by
  rw [← rP_at, ← rDP_at]
  rfl

/-- The query gradient at coordinates. -/
theorem rQ_at (b : Fin 3) (i : Fin 384) (kv : Fin 4) (h : Fin 8) (H : Fin 32) (e : H.val = 8 * kv.val + h.val) (d : Fin 64) :
    rQ K ks (rDS Q dO K V O qs ks vs L ds sg) (ix4 b i H d) = (rArgs Q dO K V O qs ks vs L ds sg).dq b kv ((rArgs Q dO K V O qs ks vs L ds sg).rp b kv) ((rArgs Q dO K V O qs ks vs L ds sg).rdp b kv) h d i := by
  unfold rQ
  pointwise []
  have e1 : (⟨H.val / 8, by omega⟩ : Fin 4) = kv := Fin.ext (show H.val / 8 = kv.val by omega)
  have e2 : (⟨H.val % 8, by omega⟩ : Fin 8) = h := Fin.ext (show H.val % 8 = h.val by omega)
  simp only [e1, e2, rDS_at]
  rfl

/-- The key gradient at coordinates. -/
theorem rK_at (b : Fin 3) (r : Fin 384) (kv : Fin 4) (d : Fin 64) :
    rK Q qs (rDS Q dO K V O qs ks vs L ds sg) (ix4 b r kv d) = (rArgs Q dO K V O qs ks vs L ds sg).dk b kv ((rArgs Q dO K V O qs ks vs L ds sg).rp b kv) ((rArgs Q dO K V O qs ks vs L ds sg).rdp b kv) d r := by
  unfold rK
  pointwise []
  simp only [rDS_at, hOf_eq]
  exact mul_comm _ _

/-- The value gradient at coordinates. -/
theorem rV_at (b : Fin 3) (r : Fin 384) (kv : Fin 4) (d : Fin 64) :
    rV dO ds (rP Q K qs ks L sg) (ix4 b r kv d) = (rArgs Q dO K V O qs ks vs L ds sg).dv b kv ((rArgs Q dO K V O qs ks vs L ds sg).rp b kv) d r := by
  unfold rV
  pointwise []
  simp only [rP_at Q dO K V O qs ks vs L ds sg, hOf_eq]
  rfl
end Cert.ReferenceIdeal.Value
end
end
-- ==== Proof.RTail.lean ====
module
public import proofs.«01_k».proof.Proof.RefVal
@[expose] public section
set_option maxRecDepth 16384
noncomputable section
open Idealize.ShloMosaic Idealize.ShloMosaic.TcCoe Idealize.SL.Sem
open Idealize.ShloMosaic.Pipeline (Dat)
namespace Cert.ReferenceIdeal.Value
open Cert.ReferenceIdeal Cert.ReferenceIdeal.Gen Cert.Attn
variable (m : (ℓ : Loc nD τ sig) → Buf (Elt Ideal) ℓ) (c : Dev nD)
set_option maxHeartbeats 400000

theorem spec_inj : Function.Injective (Pipeline.arrRef (cfgs 0).spec) := by decide +kernel
/-- The blocks are the whole arrays. -/
theorem idx : ∀ t : Fin cfg0.N, win0_0.index t = ![0, 0, 0, 0] ∧ win0_1.index t = ![0, 0, 0, 0] ∧ win0_2.index t = ![0, 0, 0, 0] ∧ win0_3.index t = ![0, 0, 0, 0]
    ∧ win0_4.index t = ![0, 0, 0, 0] ∧ win0_5.index t = ![0, 0, 0, 0] ∧ win0_6.index t = ![0, 0, 0, 0] ∧ win0_7.index t = ![0, 0, 0, 0] :=
  (by decide +kernel : ∀ t : Fin grid0.N, _)

/-- What the host line after the widening finds. -/
def W0 : Valuation τ sig (Elt Ideal) := Pipeline.withArrays (cfgs 0).spec c (V0 m c) (fun w => (dats m 0 c).arrAt w (cfgs 0).N)
/-- Widening leaves the values as they are. -/
theorem arr4 : (dats m 0 c).arrAt 4 cfg0.N = fun y : S3x384x32x64.Idx => (m (c.tc.loc main_arg0) : S3x384x32x64.Idx → EReal) y := by
  refine (dats m 0 c).arrAt_eq_of_covers 4 _ (by decide +kernel) fun t hf y => ?_
  blk_simp
  rw [after0_4]
  frame_out
  refine Eq.trans (b := iblk m c 0 t y) rfl ?_
  blk_ext [iblk, V, V0, idx t]
theorem end4 : W0 m c (Proc.devRef .tc main_v0_0)
    = fun y : S3x384x32x64.Idx => (m (c.tc.loc main_arg0) : S3x384x32x64.Idx → EReal) y :=
  (Pipeline.withArrays_arr (cfgs 0).spec spec_inj c (V0 m c) _ 4).trans (arr4 m c)
/-- Widening leaves the values as they are. -/
theorem arr5 : (dats m 0 c).arrAt 5 cfg0.N = fun y : S3x384x4x64.Idx => (m (c.tc.loc main_arg2) : S3x384x4x64.Idx → EReal) y := by
  refine (dats m 0 c).arrAt_eq_of_covers 5 _ (by decide +kernel) fun t hf y => ?_
  blk_simp
  rw [after0_5]
  frame_out
  refine Eq.trans (b := iblk m c 1 t y) rfl ?_
  blk_ext [iblk, V, V0, idx t]
theorem end5 : W0 m c (Proc.devRef .tc main_v0_1)
    = fun y : S3x384x4x64.Idx => (m (c.tc.loc main_arg2) : S3x384x4x64.Idx → EReal) y :=
  (Pipeline.withArrays_arr (cfgs 0).spec spec_inj c (V0 m c) _ 5).trans (arr5 m c)
/-- Widening leaves the values as they are. -/
theorem arr6 : (dats m 0 c).arrAt 6 cfg0.N = fun y : S3x384x4x64.Idx => (m (c.tc.loc main_arg4) : S3x384x4x64.Idx → EReal) y := by
  refine (dats m 0 c).arrAt_eq_of_covers 6 _ (by decide +kernel) fun t hf y => ?_
  blk_simp
  rw [after0_6]
  frame_out
  refine Eq.trans (b := iblk m c 2 t y) rfl ?_
  blk_ext [iblk, V, V0, idx t]
theorem end6 : W0 m c (Proc.devRef .tc main_v0_2)
    = fun y : S3x384x4x64.Idx => (m (c.tc.loc main_arg4) : S3x384x4x64.Idx → EReal) y :=
  (Pipeline.withArrays_arr (cfgs 0).spec spec_inj c (V0 m c) _ 6).trans (arr6 m c)
/-- Widening leaves the values as they are. -/
theorem arr7 : (dats m 0 c).arrAt 7 cfg0.N = fun y : S3x384x32x64.Idx => (m (c.tc.loc main_arg8) : S3x384x32x64.Idx → EReal) y := by
  refine (dats m 0 c).arrAt_eq_of_covers 7 _ (by decide +kernel) fun t hf y => ?_
  blk_simp
  rw [after0_7]
  frame_out
  refine Eq.trans (b := iblk m c 3 t y) rfl ?_
  blk_ext [iblk, V, V0, idx t]
theorem end7 : W0 m c (Proc.devRef .tc main_v0_3)
    = fun y : S3x384x32x64.Idx => (m (c.tc.loc main_arg8) : S3x384x32x64.Idx → EReal) y :=
  (Pipeline.withArrays_arr (cfgs 0).spec spec_inj c (V0 m c) _ 7).trans (arr7 m c)

theorem W0_arg1 : W0 m c (Proc.devRef .tc main_arg1) = m (c.tc.loc main_arg1) :=
  Pipeline.withArrays_of_ne _ c (V0 m c) _ main_arg1 (by exact (by decide : ∀ w, Pipeline.arrRef spec0 w ≠ main_arg1))
theorem W0_arg3 : W0 m c (Proc.devRef .tc main_arg3) = m (c.tc.loc main_arg3) :=
  Pipeline.withArrays_of_ne _ c (V0 m c) _ main_arg3 (by exact (by decide : ∀ w, Pipeline.arrRef spec0 w ≠ main_arg3))
theorem W0_arg5 : W0 m c (Proc.devRef .tc main_arg5) = m (c.tc.loc main_arg5) :=
  Pipeline.withArrays_of_ne _ c (V0 m c) _ main_arg5 (by exact (by decide : ∀ w, Pipeline.arrRef spec0 w ≠ main_arg5))
theorem W0_arg6 : W0 m c (Proc.devRef .tc main_arg6) = m (c.tc.loc main_arg6) :=
  Pipeline.withArrays_of_ne _ c (V0 m c) _ main_arg6 (by exact (by decide : ∀ w, Pipeline.arrRef spec0 w ≠ main_arg6))
theorem W0_arg7 : W0 m c (Proc.devRef .tc main_arg7) = m (c.tc.loc main_arg7) :=
  Pipeline.withArrays_of_ne _ c (V0 m c) _ main_arg7 (by exact (by decide : ∀ w, Pipeline.arrRef spec0 w ≠ main_arg7))
theorem W0_arg9 : W0 m c (Proc.devRef .tc main_arg9) = m (c.tc.loc main_arg9) :=
  Pipeline.withArrays_of_ne _ c (V0 m c) _ main_arg9 (by exact (by decide : ∀ w, Pipeline.arrRef spec0 w ≠ main_arg9))
theorem W0_arg10 : W0 m c (Proc.devRef .tc main_arg10) = m (c.tc.loc main_arg10) :=
  Pipeline.withArrays_of_ne _ c (V0 m c) _ main_arg10 (by exact (by decide : ∀ w, Pipeline.arrRef spec0 w ≠ main_arg10))

/-- The reference's operands, by coordinates. -/
def rargs : Args := rArgs (m (c.tc.loc main_arg0)) (m (c.tc.loc main_arg8)) (m (c.tc.loc main_arg2)) (m (c.tc.loc main_arg4)) (m (c.tc.loc main_arg6))
  (m (c.tc.loc main_arg1)) (m (c.tc.loc main_arg3)) (m (c.tc.loc main_arg5)) (m (c.tc.loc main_arg7)) (m (c.tc.loc main_arg9)) (m (c.tc.loc main_arg10))

/-- The reference's query gradient. -/
theorem tail80 (b : Fin 3) (i : Fin 384) (kv : Fin 4) (h : Fin 8) (H : Fin 32) (e : H.val = 8 * kv.val + h.val) (d : Fin 64) :
    Pipeline.afterTail₀ cfgs (dats m) 0 (V0 m) [hostOps1, hostOps1_1, hostOps1_2] c main_v80 (ix4 b i H d)
    = (rargs m c).dq b kv ((rargs m c).rp b kv) ((rargs m c).rdp b kv) h d i := by
  refine (congrFun (read80 (W0 m c)) (ix4 b i H d)).trans ?_
  rw [end4, end5, end6, end7, W0_arg1, W0_arg3, W0_arg5, W0_arg6, W0_arg7, W0_arg9, W0_arg10]
  exact rQ_at _ _ _ _ _ _ _ _ _ _ _ b i kv h H e d
/-- The reference's key gradient. -/
theorem tail81 (b : Fin 3) (r : Fin 384) (kv : Fin 4) (d : Fin 64) :
    Pipeline.afterTail₀ cfgs (dats m) 0 (V0 m) [hostOps1, hostOps1_1, hostOps1_2] c main_v81 (ix4 b r kv d)
    = (rargs m c).dk b kv ((rargs m c).rp b kv) ((rargs m c).rdp b kv) d r := by
  refine (congrFun (read81 (W0 m c)) (ix4 b r kv d)).trans ?_
  rw [end4, end5, end6, end7, W0_arg1, W0_arg3, W0_arg5, W0_arg6, W0_arg7, W0_arg9, W0_arg10]
  exact rK_at _ _ _ _ _ _ _ _ _ _ _ b r kv d
/-- The reference's value gradient. -/
theorem tail82 (b : Fin 3) (r : Fin 384) (kv : Fin 4) (d : Fin 64) :
    Pipeline.afterTail₀ cfgs (dats m) 0 (V0 m) [hostOps1, hostOps1_1, hostOps1_2] c main_v82 (ix4 b r kv d)
    = (rargs m c).dv b kv ((rargs m c).rp b kv) d r := by
  refine (congrFun (read82 (W0 m c)) (ix4 b r kv d)).trans ?_
  rw [end4, end5, end7, W0_arg1, W0_arg3, W0_arg7, W0_arg9, W0_arg10]
  exact rV_at _ _ _ (m (c.tc.loc main_arg4)) (m (c.tc.loc main_arg6)) _ _ (m (c.tc.loc main_arg5)) _ _ _ b r kv d
end Cert.ReferenceIdeal.Value
end
end
-- ==== Proof.Alg.lean ====
module
public import proofs.«01_k».proof.Proof.PreVal
public import proofs.«01_k».proof.Proof.KTail
public import proofs.«01_k».proof.Proof.RTail
public import proofs.«01_k».proof.Proof.Gen.KernelIdeal.Frame
public import proofs.«01_k».proof.Proof.Gen.ReferenceIdeal.Frame
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
namespace Cert.Alg
open Cert.Attn Cert.Attn.Args

/-- The kernel's probabilities are the mathematical ones. -/
theorem kp_rp (A : Args) (b : Fin 3) (kv : Fin 4) : A.kp b kv = A.rp b kv :=
  funext fun h => funext fun r => funext fun i => A.kp_eq b kv h r i
/-- The gradients of the probabilities agree as well. -/
theorem kdp_rdp (A : Args) (hv : ∀ kv, Fin0 (A.vs kv)) (hd : ∀ b i, Fin0 (A.dos b i)) (b : Fin 3) (kv : Fin 4) : A.kdp b kv = A.rdp b kv :=
  funext fun h => funext fun r => funext fun i => A.kdp_eq b kv (hv kv) h r i (hd b i)

section Args
open Cert.KernelIdeal Cert.KernelIdeal.Gen
variable (m : (ℓ : Loc nD τ sig) → Buf (Elt Ideal) ℓ) (c : Dev nD)
theorem karg0 : Pipeline.afterTail₀ cfgs (dats m) 0 (V0 m) [hostOps1] c main_arg0 = m (c.tc.loc main_arg0) := by
  show StableHlo.after hostOps1 _ (Proc.devRef .tc main_arg0) = _
  after_results
  exact (Pipeline.withArrays_of_ne _ c (V0 m c) _ main_arg0 (by exact (by decide : ∀ w, Pipeline.arrRef spec0 w ≠ main_arg0))).trans (V_main_arg0 m c)
theorem karg2 : Pipeline.afterTail₀ cfgs (dats m) 0 (V0 m) [hostOps1] c main_arg2 = m (c.tc.loc main_arg2) := by
  show StableHlo.after hostOps1 _ (Proc.devRef .tc main_arg2) = _
  after_results
  exact (Pipeline.withArrays_of_ne _ c (V0 m c) _ main_arg2 (by exact (by decide : ∀ w, Pipeline.arrRef spec0 w ≠ main_arg2))).trans (V_main_arg2 m c)
theorem karg4 : Pipeline.afterTail₀ cfgs (dats m) 0 (V0 m) [hostOps1] c main_arg4 = m (c.tc.loc main_arg4) := by
  show StableHlo.after hostOps1 _ (Proc.devRef .tc main_arg4) = _
  after_results
  exact (Pipeline.withArrays_of_ne _ c (V0 m c) _ main_arg4 (by exact (by decide : ∀ w, Pipeline.arrRef spec0 w ≠ main_arg4))).trans (V_main_arg4 m c)
theorem karg6 : Pipeline.afterTail₀ cfgs (dats m) 0 (V0 m) [hostOps1] c main_arg6 = m (c.tc.loc main_arg6) := by
  show StableHlo.after hostOps1 _ (Proc.devRef .tc main_arg6) = _
  after_results
  exact (Pipeline.withArrays_of_ne _ c (V0 m c) _ main_arg6 (by exact (by decide : ∀ w, Pipeline.arrRef spec0 w ≠ main_arg6))).trans (V_main_arg6 m c)
theorem karg8 : Pipeline.afterTail₀ cfgs (dats m) 0 (V0 m) [hostOps1] c main_arg8 = m (c.tc.loc main_arg8) := by
  show StableHlo.after hostOps1 _ (Proc.devRef .tc main_arg8) = _
  after_results
  exact (Pipeline.withArrays_of_ne _ c (V0 m c) _ main_arg8 (by exact (by decide : ∀ w, Pipeline.arrRef spec0 w ≠ main_arg8))).trans (V_main_arg8 m c)
end Args

/-- The two programs start on the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD, m' (c.tc.loc Cert.ReferenceIdeal.main_arg0) = m (c.tc.loc Cert.KernelIdeal.main_arg0)
      ∧ m' (c.tc.loc Cert.ReferenceIdeal.main_arg1) = m (c.tc.loc Cert.KernelIdeal.main_arg1)
      ∧ m' (c.tc.loc Cert.ReferenceIdeal.main_arg2) = m (c.tc.loc Cert.KernelIdeal.main_arg2)
      ∧ m' (c.tc.loc Cert.ReferenceIdeal.main_arg3) = m (c.tc.loc Cert.KernelIdeal.main_arg3)
      ∧ m' (c.tc.loc Cert.ReferenceIdeal.main_arg4) = m (c.tc.loc Cert.KernelIdeal.main_arg4)
      ∧ m' (c.tc.loc Cert.ReferenceIdeal.main_arg5) = m (c.tc.loc Cert.KernelIdeal.main_arg5)
      ∧ m' (c.tc.loc Cert.ReferenceIdeal.main_arg6) = m (c.tc.loc Cert.KernelIdeal.main_arg6)
      ∧ m' (c.tc.loc Cert.ReferenceIdeal.main_arg7) = m (c.tc.loc Cert.KernelIdeal.main_arg7)
      ∧ m' (c.tc.loc Cert.ReferenceIdeal.main_arg8) = m (c.tc.loc Cert.KernelIdeal.main_arg8)
      ∧ m' (c.tc.loc Cert.ReferenceIdeal.main_arg9) = m (c.tc.loc Cert.KernelIdeal.main_arg9)
      ∧ m' (c.tc.loc Cert.ReferenceIdeal.main_arg10) = m (c.tc.loc Cert.KernelIdeal.main_arg10))
    (c : Dev Cert.KernelIdeal.nD) : Cert.ReferenceIdeal.Value.rargs m' c = Cert.KernelIdeal.Value.argsOf m c := by
  obtain ⟨h0, h1, h2, h3, h4, h5, h6, h7, h8, h9, h10⟩ := hagree c
  unfold Cert.ReferenceIdeal.Value.rargs
  rw [h0, h1, h2, h3, h4, h5, h6, h7, h8, h9, h10]
  rfl

section Results
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hpre : Pre_KernelIdeal_scales_ok m) (c : Dev Cert.KernelIdeal.nD)
  (ha : Cert.ReferenceIdeal.Value.rargs m' c = Cert.KernelIdeal.Value.argsOf m c)
include hpre ha

/-- The query gradients agree. -/
theorem res0 : Pipeline.afterTail₀ Cert.ReferenceIdeal.cfgs (Cert.ReferenceIdeal.Gen.dats m') 0 (Cert.ReferenceIdeal.Gen.V0 m')
      [Cert.ReferenceIdeal.Gen.hostOps1, Cert.ReferenceIdeal.Gen.hostOps1_1, Cert.ReferenceIdeal.Gen.hostOps1_2] c Cert.ReferenceIdeal.main_v80
    = Pipeline.afterTail₀ Cert.KernelIdeal.cfgs (Cert.KernelIdeal.Gen.dats m) 0 (Cert.KernelIdeal.Gen.V0 m) [Cert.KernelIdeal.Gen.hostOps1] c Cert.KernelIdeal.main_v6 := by
  obtain ⟨hv, hd⟩ := PreVal.fin0 m hpre c
  funext y
  obtain ⟨b, i, H, d, rfl⟩ : ∃ b i H d, y = ix4 b i H d := ⟨y 0, y 1, y 2, y 3, by funext j; fin_cases j <;> rfl⟩
  refine (Cert.ReferenceIdeal.Value.tail80 m' c b i (Cert.KernelIdeal.Value.kvQ H) (Cert.KernelIdeal.Value.hQ H) H
    (by simp only [Cert.KernelIdeal.Value.kvQ, Cert.KernelIdeal.Value.hQ]; omega) d).trans (Eq.trans ?_ (Cert.KernelIdeal.Value.tail6 m c b i H d).symm)
  rw [ha, ← kp_rp, ← kdp_rdp _ hv hd]
  rfl
/-- The key gradients agree. -/
theorem res1 : Pipeline.afterTail₀ Cert.ReferenceIdeal.cfgs (Cert.ReferenceIdeal.Gen.dats m') 0 (Cert.ReferenceIdeal.Gen.V0 m')
      [Cert.ReferenceIdeal.Gen.hostOps1, Cert.ReferenceIdeal.Gen.hostOps1_1, Cert.ReferenceIdeal.Gen.hostOps1_2] c Cert.ReferenceIdeal.main_v81
    = Pipeline.afterTail₀ Cert.KernelIdeal.cfgs (Cert.KernelIdeal.Gen.dats m) 0 (Cert.KernelIdeal.Gen.V0 m) [Cert.KernelIdeal.Gen.hostOps1] c Cert.KernelIdeal.main_v7 := by
  obtain ⟨hv, hd⟩ := PreVal.fin0 m hpre c
  funext y
  obtain ⟨b, r, kv, d, rfl⟩ : ∃ b r kv d, y = ix4 b r kv d := ⟨y 0, y 1, y 2, y 3, by funext j; fin_cases j <;> rfl⟩
  refine (Cert.ReferenceIdeal.Value.tail81 m' c b r kv d).trans (Eq.trans ?_ (Cert.KernelIdeal.Value.tail7 m c b r kv d).symm)
  rw [ha, ← kp_rp, ← kdp_rdp _ hv hd]
  rfl
/-- The value gradients agree. -/
theorem res2 : Pipeline.afterTail₀ Cert.ReferenceIdeal.cfgs (Cert.ReferenceIdeal.Gen.dats m') 0 (Cert.ReferenceIdeal.Gen.V0 m')
      [Cert.ReferenceIdeal.Gen.hostOps1, Cert.ReferenceIdeal.Gen.hostOps1_1, Cert.ReferenceIdeal.Gen.hostOps1_2] c Cert.ReferenceIdeal.main_v82
    = Pipeline.afterTail₀ Cert.KernelIdeal.cfgs (Cert.KernelIdeal.Gen.dats m) 0 (Cert.KernelIdeal.Gen.V0 m) [Cert.KernelIdeal.Gen.hostOps1] c Cert.KernelIdeal.main_v8 := by
  obtain ⟨hv, hd⟩ := PreVal.fin0 m hpre c
  funext y
  obtain ⟨b, r, kv, d, rfl⟩ : ∃ b r kv d, y = ix4 b r kv d := ⟨y 0, y 1, y 2, y 3, by funext j; fin_cases j <;> rfl⟩
  refine (Cert.ReferenceIdeal.Value.tail82 m' c b r kv d).trans (Eq.trans ?_ (Cert.KernelIdeal.Value.tail8 m c b r kv d).symm)
  rw [ha, ← kp_rp]
  rfl
end Results

set_option maxHeartbeats 1600000 in
/-- The kernel's three results are the mathematical gradients. -/
theorem algebraic : Cert.algebraic_KernelIdeal_ReferenceIdeal_pre_scales_ok := by
  pair_intro
  · run_from Cert.KernelIdeal.Gen.run_main m g
    · exact karg0 m c
    · exact karg2 m c
    · exact karg4 m c
    · exact karg6 m c
    · exact karg8 m c
  · run_from Cert.ReferenceIdeal.Gen.run_main m' g'
    · exact res0 m m' hpre c (args_eq m m' hagree c)
    · exact res1 m m' hpre c (args_eq m m' hagree c)
    · exact res2 m m' hpre c (args_eq m m' hagree c)
    · exact (Cert.ReferenceIdeal.Gen.W_main_arg1 m' (Cert.ReferenceIdeal.Gen.dats m') c).trans (hagree c).2.1
    · exact (Cert.ReferenceIdeal.Gen.W_main_arg3 m' (Cert.ReferenceIdeal.Gen.dats m') c).trans (hagree c).2.2.2.1
    · exact (Cert.ReferenceIdeal.Gen.W_main_arg5 m' (Cert.ReferenceIdeal.Gen.dats m') c).trans (hagree c).2.2.2.2.2.1
    · exact (Cert.ReferenceIdeal.Gen.W_main_arg6 m' (Cert.ReferenceIdeal.Gen.dats m') c).trans (hagree c).2.2.2.2.2.2.1
    · exact (Cert.ReferenceIdeal.Gen.W_main_arg7 m' (Cert.ReferenceIdeal.Gen.dats m') c).trans (hagree c).2.2.2.2.2.2.2.1
    · exact (Cert.ReferenceIdeal.Gen.W_main_arg9 m' (Cert.ReferenceIdeal.Gen.dats m') c).trans (hagree c).2.2.2.2.2.2.2.2.2.1
    · exact (Cert.ReferenceIdeal.Gen.W_main_arg10 m' (Cert.ReferenceIdeal.Gen.dats m') c).trans (hagree c).2.2.2.2.2.2.2.2.2.2
end Cert.Alg
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_ok
public import proofs.«01_k».proof.Proof.Alg
public import Idealize.ShloMosaic.Adequacy
public import Idealize.ShloMosaic.Init

@[expose] public section

noncomputable section

namespace Cert.Proof

open Idealize.ShloMosaic Idealize.SL.Sem Cert.Kernel

/-- Both named constants are the reals the text rounds. -/
theorem preserves : Cert.preserves_Kernel_KernelIdeal :=
  ⟨IdealRules.named_const.statement Cert.KernelIdeal.κ "log2e_eighth" .f32 0x3E38AA3B#32
     ((8⁻¹ * (Real.log 2)⁻¹ : ℝ) : EReal) rfl,
   IdealRules.named_const.statement Cert.KernelIdeal.κ "log2e" .f32 0x3FB8AA3B#32 (((Real.log 2)⁻¹ : ℝ) : EReal) rfl⟩

theorem claim : Cert.Claim := ⟨Cert.Kernel.Gen.facts, Cert.KernelIdeal.Gen.facts, Cert.ReferenceIdeal.Gen.facts, Cert.Pre_scales_ok.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves, Cert.Alg.algebraic⟩

end Cert.Proof

end
